-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_adj_zero_or_one [hPre_adj_zero_or_one : Cert.Pre_adj_zero_or_one.Facts] (m : (ℓ : Loc Cert.KernelIdeal.nD Cert.KernelIdeal.τ Cert.KernelIdeal.sig) → Buf (Elt Ideal) ℓ) : Prop :=
  ∀ c : Dev Cert.KernelIdeal.nD,
    (Cert.Pre_adj_zero_or_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_adj_zero_or_one [hPre_adj_zero_or_one : Cert.Pre_adj_zero_or_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_adj_zero_or_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_adj_zero_or_one [hKernelIdeal : Cert.KernelIdeal.Facts] [hPre_adj_zero_or_one : Cert.Pre_adj_zero_or_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_adj_zero_or_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_adj_zero_or_one [hReferenceIdeal : Cert.ReferenceIdeal.Facts] [hPre_adj_zero_or_one : Cert.Pre_adj_zero_or_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_adj_zero_or_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "ratio0" .f32 0x3F2E96B4#32 ((13605151 / 19949280 : ℝ) : EReal)
  ∧ IdealRules.named_const.Statement Cert.KernelIdeal.κ "ratio1" .f32 0x3E931101#32 ((7487455 / 26066976 : ℝ) : EReal)
  ∧ IdealRules.named_const.Statement Cert.KernelIdeal.κ "ratio2" .f32 0x3E3A9E15#32 ((10344877 / 56763988 : ℝ) : EReal)
  ∧ IdealRules.named_const.Statement Cert.KernelIdeal.κ "ratio3" .f32 0x3E08B653#32 ((15808571 / 118409160 : ℝ) : EReal)
  ∧ IdealRules.named_const.Statement Cert.KernelIdeal.κ "ratio4" .f32 0x3DD7C262#32 ((3198079 / 30356354 : ℝ) : EReal)
  ∧ IdealRules.named_const.Statement Cert.KernelIdeal.κ "ratio5" .f32 0x3DB230B7#32 ((1790525 / 20579096 : ℝ) : EReal)
  ∧ IdealRules.named_const.Statement Cert.KernelIdeal.κ "ratio6" .f32 0x3D97C4B1#32 ((4630033 / 62478832 : ℝ) : EReal)
  ∧ IdealRules.named_const.Statement Cert.KernelIdeal.κ "ratio7" .f32 0x3D842C0F#32 ((8136899 / 126080832 : ℝ) : EReal)

def algebraic_KernelIdeal_ReferenceIdeal_pre_adj_zero_or_one [hKernelIdeal : Cert.KernelIdeal.Facts] [hReferenceIdeal : Cert.ReferenceIdeal.Facts] [hPre_adj_zero_or_one : Cert.Pre_adj_zero_or_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_adj_zero_or_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_adj_zero_or_one : Cert.Pre_adj_zero_or_one.Facts),
    quiescent_Kernel (hKernel := hKernel)
    ∧ quiescent_KernelIdeal (hKernelIdeal := hKernelIdeal)
    ∧ quiescent_KernelIdeal_pre_adj_zero_or_one (hKernelIdeal := hKernelIdeal) (hPre_adj_zero_or_one := hPre_adj_zero_or_one)
    ∧ quiescent_ReferenceIdeal (hReferenceIdeal := hReferenceIdeal)
    ∧ quiescent_ReferenceIdeal_pre_adj_zero_or_one (hReferenceIdeal := hReferenceIdeal) (hPre_adj_zero_or_one := hPre_adj_zero_or_one)
    ∧ preserves_Kernel_KernelIdeal
    ∧ algebraic_KernelIdeal_ReferenceIdeal_pre_adj_zero_or_one (hKernelIdeal := hKernelIdeal) (hReferenceIdeal := hReferenceIdeal) (hPre_adj_zero_or_one := hPre_adj_zero_or_one)
-- ==== Pre_adj_zero_or_one.lean ====
abbrev S2048x256 : Shape := ⟨2, ![2048, 256]⟩
abbrev S2048x2048 : Shape := ⟨2, ![2048, 2048]⟩
abbrev S256x256 : Shape := ⟨2, ![256, 256]⟩
abbrev S256 : Shape := ⟨1, ![256]⟩
abbrev S8x256x256 : Shape := ⟨3, ![8, 256, 256]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x256 .f32) (main_arg1 : IVec S2048x2048 32) (main_arg2 : FVec F S256x256 .f32) (main_arg3 : FVec F S256 .f32) (main_arg4 : FVec F S256x256 .f32) (main_arg5 : FVec F S256 .f32) (main_arg6 : FVec F S8x256x256 .f32) : IVec S2048x2048 1 :=
  let main_c : IVec S_ 32 := constantI S_ 32 0#32
  let main_v0 : IVec S2048x2048 32 := broadcastInDim S2048x2048 ![] bcast_S_S2048x2048 main_c
  let main_v1 : IVec S2048x2048 1 := cmpi .sge main_arg1 main_v0
  let main_c_0 : IVec S_ 32 := constantI S_ 32 2#32
  let main_v2 : IVec S2048x2048 32 := broadcastInDim S2048x2048 ![] bcast_S_S2048x2048 main_c_0
  let main_v3 : IVec S2048x2048 1 := cmpi .slt main_arg1 main_v2
  let main_v4 : IVec S2048x2048 1 := andi main_v1 main_v3
  main_v4
-- ==== Kernel.lean ====
abbrev S2048x256 : Shape := ⟨2, ![2048, 256]⟩
abbrev S2048x2048 : Shape := ⟨2, ![2048, 2048]⟩
abbrev S256x256 : Shape := ⟨2, ![256, 256]⟩
abbrev S256 : Shape := ⟨1, ![256]⟩
abbrev S8x256x256 : Shape := ⟨3, ![8, 256, 256]⟩
abbrev S1x256 : Shape := ⟨2, ![1, 256]⟩
abbrev S1024x2048 : Shape := ⟨2, ![1024, 2048]⟩
abbrev S256x2048 : Shape := ⟨2, ![256, 2048]⟩
abbrev S1x2048 : Shape := ⟨2, ![1, 2048]⟩
abbrev S2048 : Shape := ⟨1, ![2048]⟩
abbrev S256x1 : Shape := ⟨2, ![256, 1]⟩
abbrev S1x256x256 : Shape := ⟨3, ![1, 256, 256]⟩
abbrev S2048x512 : Shape := ⟨2, ![2048, 512]⟩
abbrev S256x512 : Shape := ⟨2, ![256, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S2048x256, .f32⟩
  | .hbm, ⟨1, _⟩ => ⟨S2048x2048, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S8x256x256, .f32⟩
  | .hbm, ⟨7, _⟩ => ⟨S1x256, .f32⟩
  | .hbm, ⟨8, _⟩ => ⟨S1x256, .f32⟩
  | .hbm, ⟨9, _⟩ => ⟨S2048x256, .f32⟩
  | .local _ .vmem, ⟨0, _⟩ => ⟨S2048x256, .f32⟩
  | .local _ .vmem, ⟨1, _⟩ => ⟨S1024x2048, .i32⟩
  | .local _ .vmem, ⟨2, _⟩ => ⟨S1024x2048, .i32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S8x256x256, .f32⟩
  | .local _ .vmem, ⟨8, _⟩ => ⟨S2048x256, .f32⟩
  | .local _ .vmem, ⟨9, _⟩ => ⟨S2048x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c1024_i32 : BitVec 32 := 1024#32
  let v22 : BitVec 32 := Scalar.muli arg0 c1024_i32
  let v23 : Index := Scalar.indexCast v22
  let c0_11 : Index := 0#32
  ![v23.toNat, 0]
def k0_cond3 (i : grid0.Coords) : BitVec 1 :=
  let arg0 : BitVec 32 := BitVec.ofNat 32 (i 0).val
  let c2_i32_2 : BitVec 32 := 2#32
  let v6 : BitVec 1 := Scalar.cmpi .eq arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "ratio0" => some ((13605151 / 19949280 : ℝ) : EReal)
  | "ratio1" => some ((7487455 / 26066976 : ℝ) : EReal)
  | "ratio2" => some ((10344877 / 56763988 : ℝ) : EReal)
  | "ratio3" => some ((15808571 / 118409160 : ℝ) : EReal)
  | "ratio4" => some ((3198079 / 30356354 : ℝ) : EReal)
  | "ratio5" => some ((1790525 / 20579096 : ℝ) : EReal)
  | "ratio6" => some ((4630033 / 62478832 : ℝ) : EReal)
  | "ratio7" => some ((8136899 / 126080832 : ℝ) : EReal)
  | _ => none
-- ==== ReferenceIdeal.lean ====
abbrev S2048x256 : Shape := ⟨2, ![2048, 256]⟩
abbrev S2048x2048 : Shape := ⟨2, ![2048, 2048]⟩
abbrev S256x256 : Shape := ⟨2, ![256, 256]⟩
abbrev S256 : Shape := ⟨1, ![256]⟩
abbrev S8x256x256 : Shape := ⟨3, ![8, 256, 256]⟩
abbrev S_ : Shape := ⟨0, ![]⟩
abbrev S2048 : Shape := ⟨1, ![2048]⟩
abbrev S1x256 : Shape := ⟨2, ![1, 256]⟩
abbrev S2048x1 : Shape := ⟨2, ![2048, 1]⟩
abbrev S1x256x256 : Shape := ⟨3, ![1, 256, 256]⟩

abbrev nBuf : Space → Nat
  | .hbm => 268
  | .vmem => 0
  | .smem => 0
  | _ => 0

abbrev hbmTy0_0 (i : Nat) : BufTy := match i % 128 with
  | 0 => ⟨S2048x256, .f32⟩
  | 1 => ⟨S2048x2048, .i32⟩
  | 2 => ⟨S256x256, .f32⟩
  | 3 => ⟨S256, .f32⟩
  | 4 => ⟨S256x256, .f32⟩
  | 5 => ⟨S256, .f32⟩
  | 6 => ⟨S8x256x256, .f32⟩
  | 7 => ⟨S2048x2048, .i32⟩
  | 8 => ⟨S2048x2048, .i32⟩
  | 9 => ⟨S_, .i32⟩
  | 10 => ⟨S2048x2048, .i32⟩
  | 11 => ⟨S2048x2048, .i32⟩
  | 12 => ⟨S2048x2048, .i1⟩
  | 13 => ⟨S_, .i32⟩
  | 14 => ⟨S2048x2048, .i32⟩
  | 15 => ⟨S2048x2048, .i1⟩
  | 16 => ⟨S_, .f32⟩
  | 17 => ⟨S_, .f32⟩
  | 18 => ⟨S2048x2048, .f32⟩
  | 19 => ⟨S2048x2048, .f32⟩
  | 20 => ⟨S2048x2048, .f32⟩
  | 21 => ⟨S_, .f32⟩
  | 22 => ⟨S2048x2048, .f32⟩
  | 23 => ⟨S2048x2048, .f32⟩
  | 24 => ⟨S2048x2048, .f32⟩
  | 25 => ⟨S_, .f32⟩
  | 26 => ⟨S2048, .f32⟩
  | 27 => ⟨S2048, .f32⟩
  | 28 => ⟨S_, .f32⟩
  | 29 => ⟨S2048, .f32⟩
  | 30 => ⟨S2048, .f32⟩
  | 31 => ⟨S256x256, .f32⟩
  | 32 => ⟨S2048x256, .f32⟩
  | 33 => ⟨S1x256, .f32⟩
  | 34 => ⟨S2048x256, .f32⟩
  | 35 => ⟨S2048x256, .f32⟩
  | 36 => ⟨S_, .f32⟩
  | 37 => ⟨S2048x256, .f32⟩
  | 38 => ⟨S2048x256, .f32⟩
  | 39 => ⟨S2048x1, .f32⟩
  | 40 => ⟨S2048x2048, .f32⟩
  | 41 => ⟨S2048x1, .f32⟩
  | 42 => ⟨S2048x256, .f32⟩
  | 43 => ⟨S2048x256, .f32⟩
  | 44 => ⟨S2048x256, .f32⟩
  | 45 => ⟨S2048x256, .f32⟩
  | 46 => ⟨S2048x256, .f32⟩
  | 47 => ⟨S_, .f32⟩
  | 48 => ⟨S2048x256, .f32⟩
  | 49 => ⟨S2048x256, .f32⟩
  | 50 => ⟨S_, .f32⟩
  | 51 => ⟨S2048x256, .f32⟩
  | 52 => ⟨S2048x256, .f32⟩
  | 53 => ⟨S2048x256, .f32⟩
  | 54 => ⟨S_, .f32⟩
  | 55 => ⟨S2048x256, .f32⟩
  | 56 => ⟨S2048x256, .f32⟩
  | 57 => ⟨S1x256x256, .f32⟩
  | 58 => ⟨S256x256, .f32⟩
  | 59 => ⟨S2048x256, .f32⟩
  | 60 => ⟨S_, .f32⟩
  | 61 => ⟨S2048x256, .f32⟩
  | 62 => ⟨S2048x256, .f32⟩
  | 63 => ⟨S2048x256, .f32⟩
  | 64 => ⟨S_, .f32⟩
  | 65 => ⟨S2048x256, .f32⟩
  | 66 => ⟨S2048x256, .f32⟩
  | 67 => ⟨S2048x1, .f32⟩
  | 68 => ⟨S2048x2048, .f32⟩
  | 69 => ⟨S2048x1, .f32⟩
  | 70 => ⟨S2048x256, .f32⟩
  | 71 => ⟨S2048x256, .f32⟩
  | 72 => ⟨S2048x256, .f32⟩
  | 73 => ⟨S2048x256, .f32⟩
  | 74 => ⟨S2048x256, .f32⟩
  | 75 => ⟨S_, .f32⟩
  | 76 => ⟨S2048x256, .f32⟩
  | 77 => ⟨S2048x256, .f32⟩
  | 78 => ⟨S_, .f32⟩
  | 79 => ⟨S2048x256, .f32⟩
  | 80 => ⟨S2048x256, .f32⟩
  | 81 => ⟨S2048x256, .f32⟩
  | 82 => ⟨S_, .f32⟩
  | 83 => ⟨S2048x256, .f32⟩
  | 84 => ⟨S2048x256, .f32⟩
  | 85 => ⟨S1x256x256, .f32⟩
  | 86 => ⟨S256x256, .f32⟩
  | 87 => ⟨S2048x256, .f32⟩
  | 88 => ⟨S_, .f32⟩
  | 89 => ⟨S2048x256, .f32⟩
  | 90 => ⟨S2048x256, .f32⟩
  | 91 => ⟨S2048x256, .f32⟩
  | 92 => ⟨S_, .f32⟩
  | 93 => ⟨S2048x256, .f32⟩
  | 94 => ⟨S2048x256, .f32⟩
  | 95 => ⟨S2048x1, .f32⟩
  | 96 => ⟨S2048x2048, .f32⟩
  | 97 => ⟨S2048x1, .f32⟩
  | 98 => ⟨S2048x256, .f32⟩
  | 99 => ⟨S2048x256, .f32⟩
  | 100 => ⟨S2048x256, .f32⟩
  | 101 => ⟨S2048x256, .f32⟩
  | 102 => ⟨S2048x256, .f32⟩
  | 103 => ⟨S_, .f32⟩
  | 104 => ⟨S2048x256, .f32⟩
  | 105 => ⟨S2048x256, .f32⟩
  | 106 => ⟨S_, .f32⟩
  | 107 => ⟨S2048x256, .f32⟩
  | 108 => ⟨S2048x256, .f32⟩
  | 109 => ⟨S2048x256, .f32⟩
  | 110 => ⟨S_, .f32⟩
  | 111 => ⟨S2048x256, .f32⟩
  | 112 => ⟨S2048x256, .f32⟩
  | 113 => ⟨S1x256x256, .f32⟩
  | 114 => ⟨S256x256, .f32⟩
  | 115 => ⟨S2048x256, .f32⟩
  | 116 => ⟨S_, .f32⟩
  | 117 => ⟨S2048x256, .f32⟩
  | 118 => ⟨S2048x256, .f32⟩
  | 119 => ⟨S2048x256, .f32⟩
  | 120 => ⟨S_, .f32⟩
  | 121 => ⟨S2048x256, .f32⟩
  | 122 => ⟨S2048x256, .f32⟩
  | 123 => ⟨S2048x1, .f32⟩
  | 124 => ⟨S2048x2048, .f32⟩
  | 125 => ⟨S2048x1, .f32⟩
  | 126 => ⟨S2048x256, .f32⟩
  | 127 => ⟨S2048x256, .f32⟩
  | _ => ⟨S2048x256, .f32⟩

abbrev hbmTy0_1 (i : Nat) : BufTy := match i % 128 with
  | 0 => ⟨S2048x256, .f32⟩
  | 1 => ⟨S2048x256, .f32⟩
  | 2 => ⟨S2048x256, .f32⟩
  | 3 => ⟨S_, .f32⟩
  | 4 => ⟨S2048x256, .f32⟩
  | 5 => ⟨S2048x256, .f32⟩
  | 6 => ⟨S_, .f32⟩
  | 7 => ⟨S2048x256, .f32⟩
  | 8 => ⟨S2048x256, .f32⟩
  | 9 => ⟨S2048x256, .f32⟩
  | 10 => ⟨S_, .f32⟩
  | 11 => ⟨S2048x256, .f32⟩
  | 12 => ⟨S2048x256, .f32⟩
  | 13 => ⟨S1x256x256, .f32⟩
  | 14 => ⟨S256x256, .f32⟩
  | 15 => ⟨S2048x256, .f32⟩
  | 16 => ⟨S_, .f32⟩
  | 17 => ⟨S2048x256, .f32⟩
  | 18 => ⟨S2048x256, .f32⟩
  | 19 => ⟨S2048x256, .f32⟩
  | 20 => ⟨S_, .f32⟩
  | 21 => ⟨S2048x256, .f32⟩
  | 22 => ⟨S2048x256, .f32⟩
  | 23 => ⟨S2048x1, .f32⟩
  | 24 => ⟨S2048x2048, .f32⟩
  | 25 => ⟨S2048x1, .f32⟩
  | 26 => ⟨S2048x256, .f32⟩
  | 27 => ⟨S2048x256, .f32⟩
  | 28 => ⟨S2048x256, .f32⟩
  | 29 => ⟨S2048x256, .f32⟩
  | 30 => ⟨S2048x256, .f32⟩
  | 31 => ⟨S_, .f32⟩
  | 32 => ⟨S2048x256, .f32⟩
  | 33 => ⟨S2048x256, .f32⟩
  | 34 => ⟨S_, .f32⟩
  | 35 => ⟨S2048x256, .f32⟩
  | 36 => ⟨S2048x256, .f32⟩
  | 37 => ⟨S2048x256, .f32⟩
  | 38 => ⟨S_, .f32⟩
  | 39 => ⟨S2048x256, .f32⟩
  | 40 => ⟨S2048x256, .f32⟩
  | 41 => ⟨S1x256x256, .f32⟩
  | 42 => ⟨S256x256, .f32⟩
  | 43 => ⟨S2048x256, .f32⟩
  | 44 => ⟨S_, .f32⟩
  | 45 => ⟨S2048x256, .f32⟩
  | 46 => ⟨S2048x256, .f32⟩
  | 47 => ⟨S2048x256, .f32⟩
  | 48 => ⟨S_, .f32⟩
  | 49 => ⟨S2048x256, .f32⟩
  | 50 => ⟨S2048x256, .f32⟩
  | 51 => ⟨S2048x1, .f32⟩
  | 52 => ⟨S2048x2048, .f32⟩
  | 53 => ⟨S2048x1, .f32⟩
  | 54 => ⟨S2048x256, .f32⟩
  | 55 => ⟨S2048x256, .f32⟩
  | 56 => ⟨S2048x256, .f32⟩
  | 57 => ⟨S2048x256, .f32⟩
  | 58 => ⟨S2048x256, .f32⟩
  | 59 => ⟨S_, .f32⟩
  | 60 => ⟨S2048x256, .f32⟩
  | 61 => ⟨S2048x256, .f32⟩
  | 62 => ⟨S_, .f32⟩
  | 63 => ⟨S2048x256, .f32⟩
  | 64 => ⟨S2048x256, .f32⟩
  | 65 => ⟨S2048x256, .f32⟩
  | 66 => ⟨S_, .f32⟩
  | 67 => ⟨S2048x256, .f32⟩
  | 68 => ⟨S2048x256, .f32⟩
  | 69 => ⟨S1x256x256, .f32⟩
  | 70 => ⟨S256x256, .f32⟩
  | 71 => ⟨S2048x256, .f32⟩
  | 72 => ⟨S_, .f32⟩
  | 73 => ⟨S2048x256, .f32⟩
  | 74 => ⟨S2048x256, .f32⟩
  | 75 => ⟨S2048x256, .f32⟩
  | 76 => ⟨S_, .f32⟩
  | 77 => ⟨S2048x256, .f32⟩
  | 78 => ⟨S2048x256, .f32⟩
  | 79 => ⟨S2048x1, .f32⟩
  | 80 => ⟨S2048x2048, .f32⟩
  | 81 => ⟨S2048x1, .f32⟩
  | 82 => ⟨S2048x256, .f32⟩
  | 83 => ⟨S2048x256, .f32⟩
  | 84 => ⟨S2048x256, .f32⟩
  | 85 => ⟨S2048x256, .f32⟩
  | 86 => ⟨S2048x256, .f32⟩
  | 87 => ⟨S_, .f32⟩
  | 88 => ⟨S2048x256, .f32⟩
  | 89 => ⟨S2048x256, .f32⟩
  | 90 => ⟨S_, .f32⟩
  | 91 => ⟨S2048x256, .f32⟩
  | 92 => ⟨S2048x256, .f32⟩
  | 93 => ⟨S2048x256, .f32⟩
  | 94 => ⟨S_, .f32⟩
  | 95 => ⟨S2048x256, .f32⟩
  | 96 => ⟨S2048x256, .f32⟩
  | 97 => ⟨S1x256x256, .f32⟩
  | 98 => ⟨S256x256, .f32⟩
  | 99 => ⟨S2048x256, .f32⟩
  | 100 => ⟨S_, .f32⟩
  | 101 => ⟨S2048x256, .f32⟩
  | 102 => ⟨S2048x256, .f32⟩
  | 103 => ⟨S2048x256, .f32⟩
  | 104 => ⟨S_, .f32⟩
  | 105 => ⟨S2048x256, .f32⟩
  | 106 => ⟨S2048x256, .f32⟩
  | 107 => ⟨S2048x1, .f32⟩
  | 108 => ⟨S2048x2048, .f32⟩
  | 109 => ⟨S2048x1, .f32⟩
  | 110 => ⟨S2048x256, .f32⟩
  | 111 => ⟨S2048x256, .f32⟩
  | 112 => ⟨S2048x256, .f32⟩
  | 113 => ⟨S2048x256, .f32⟩
  | 114 => ⟨S2048x256, .f32⟩
  | 115 => ⟨S_, .f32⟩
  | 116 => ⟨S2048x256, .f32⟩
  | 117 => ⟨S2048x256, .f32⟩
  | 118 => ⟨S_, .f32⟩
  | 119 => ⟨S2048x256, .f32⟩
  | 120 => ⟨S2048x256, .f32⟩
  | 121 => ⟨S2048x256, .f32⟩
  | 122 => ⟨S_, .f32⟩
  | 123 => ⟨S2048x256, .f32⟩
  | 124 => ⟨S2048x256, .f32⟩
  | 125 => ⟨S1x256x256, .f32⟩
  | 126 => ⟨S256x256, .f32⟩
  | 127 => ⟨S2048x256, .f32⟩
  | _ => ⟨S2048x256, .f32⟩

abbrev hbmTy0_2 (i : Nat) : BufTy := match i % 128 with
  | 0 => ⟨S_, .f32⟩
  | 1 => ⟨S2048x256, .f32⟩
  | 2 => ⟨S2048x256, .f32⟩
  | 3 => ⟨S2048x256, .f32⟩
  | 4 => ⟨S_, .f32⟩
  | 5 => ⟨S2048x256, .f32⟩
  | 6 => ⟨S2048x256, .f32⟩
  | 7 => ⟨S256x256, .f32⟩
  | 8 => ⟨S2048x256, .f32⟩
  | 9 => ⟨S1x256, .f32⟩
  | 10 => ⟨S2048x256, .f32⟩
  | 11 => ⟨S2048x256, .f32⟩
  | _ => ⟨S2048x256, .f32⟩

abbrev hbmTy (i : Nat) : BufTy := match i / 128 with
  | 0 => hbmTy0_0 i
  | 1 => hbmTy0_1 i
  | 2 => hbmTy0_2 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_2 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call2_cst : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call3_cst : Ref sig .tc := ⟨.hbm, 64, rfl⟩
abbrev main_call3_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call4_cst : Ref sig .tc := ⟨.hbm, 92, rfl⟩
abbrev main_call4_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_13 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call5_cst : Ref sig .tc := ⟨.hbm, 120, rfl⟩
abbrev main_call5_v0 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_17 : Ref sig .tc := ⟨.hbm, 131, rfl⟩
abbrev main_v94 : Ref sig .tc := ⟨.hbm, 132, rfl⟩
abbrev main_v95 : Ref sig .tc := ⟨.hbm, 133, rfl⟩
abbrev main_cst_18 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_19 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_20 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_call6_cst : Ref sig .tc := ⟨.hbm, 148, rfl⟩
abbrev main_call6_v0 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_21 : Ref sig .tc := ⟨.hbm, 159, rfl⟩
abbrev main_v116 : Ref sig .tc := ⟨.hbm, 160, rfl⟩
abbrev main_v117 : Ref sig .tc := ⟨.hbm, 161, rfl⟩
abbrev main_cst_22 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_23 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_24 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_call7_cst : Ref sig .tc := ⟨.hbm, 176, rfl⟩
abbrev main_call7_v0 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_25 : Ref sig .tc := ⟨.hbm, 187, rfl⟩
abbrev main_v138 : Ref sig .tc := ⟨.hbm, 188, rfl⟩
abbrev main_v139 : Ref sig .tc := ⟨.hbm, 189, rfl⟩
abbrev main_cst_26 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_27 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_28 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_call8_cst : Ref sig .tc := ⟨.hbm, 204, rfl⟩
abbrev main_call8_v0 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_cst_29 : Ref sig .tc := ⟨.hbm, 215, rfl⟩
abbrev main_v160 : Ref sig .tc := ⟨.hbm, 216, rfl⟩
abbrev main_v161 : Ref sig .tc := ⟨.hbm, 217, rfl⟩
abbrev main_cst_30 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_31 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_32 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_call9_cst : Ref sig .tc := ⟨.hbm, 232, rfl⟩
abbrev main_call9_v0 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_33 : Ref sig .tc := ⟨.hbm, 243, rfl⟩
abbrev main_v182 : Ref sig .tc := ⟨.hbm, 244, rfl⟩
abbrev main_v183 : Ref sig .tc := ⟨.hbm, 245, rfl⟩
abbrev main_cst_34 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_cst_35 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_cst_36 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_call10_cst : Ref sig .tc := ⟨.hbm, 260, rfl⟩
abbrev main_call10_v0 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩

abbrev nD : Nat := 1
abbrev τ : Topo := Topo.v7x

variable {F : FTy → Type} [FloatOps F]
-- ==== Proof.Ops.lean ====
/- Loads and stores of memrefs owned at known contents, and programs that keep a resource whatever they store. -/
module

public import Idealize.ShloMosaic.Lib.Memref
public import Idealize.ShloMosaic.Rules.Step
public import Idealize.ShloMosaic.Lib.Pipeline.Frame
public import Idealize.ShloMosaic.Lib.Pipeline.ValueKit.Tiles

@[expose] public section

noncomputable section

namespace Cert.Hand

open Idealize.ShloMosaic
open Idealize.SL Idealize.SL.RA Idealize.SL.Sem Idealize.SL.ProofMode Idealize.SL.BI
open scoped Idealize.SL.BI
open Idealize.ShloMosaic.Rounds
open Idealize.SL.BI.BIBase Idealize.SL.BI.Laws

variable {nD : Nat} {τ : Topo} {sig : RefSig} {Val : EltTy → Type} {Λ : Labels}
local notation "𝕄" => MT nD τ sig Unit Val ℕ (UR sig nD τ) ℕ

variable {defs : Defs nD τ sig Val Λ} (𝒱 : Variants) (c : Thread nD τ) (bd : Option 𝒱.V) (E : Set ℕ)
variable {α β : Type} {cs : CoreSpace} {s : Shape} {e : EltTy}

/-- A load from a memref owned at contents `X` continues with what `X` holds in the rectangle. -/
theorem wp_load_owns {Q : α → sProp 𝕄} {m : Memref sig c.2.kind cs s e} {r : Rect s} {hl : m.view.LoadsAt r.toLoadRect} {q : PosShare TreeShare}
    {k : (r.shape.Idx → Val e) → Prog (TpuEff nD τ sig Val Λ c.2) α} {X : s.Idx → Val e} :
    owns c m q X ⊢ iprop((owns c m q X -∗ wp (M := 𝕄) frame (wpE defs 𝒱 c bd) E (k (View.ld X r)) Q)
      -∗ wp (M := 𝕄) frame (wpE defs 𝒱 c bd) E (Prog.lift (.load m r.toLoadRect hl) >>= k) Q) := by
  unfold owns
  iintro ⟨%f, %hf, H⟩ Hk
  subst hf
  iapply (wp_load 𝒱 c bd E (k := k) (View.setOn_subset_set _ _)) $$ H
  iintro H
  iapply Hk
  iexists f
  isplitr
  · ipureintro; rfl
  iexact H

/-- A store of a whole rectangle to a memref owned at contents `X` leaves `X` overwritten there. -/
theorem wp_store_owns {Q : α → sProp 𝕄} {m : Memref sig c.2.kind cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : s.Idx → Val e} :
    owns c m fullShare X ⊢ iprop((owns c m fullShare (r.overlay X w) -∗ wp (M := 𝕄) frame (wpE defs 𝒱 c bd) E (k ⟨⟩) Q)
      -∗ wp (M := 𝕄) frame (wpE defs 𝒱 c bd) E (Prog.lift (.store m r w Finset.univ hx hm) >>= k) Q) := by
  unfold owns
  iintro ⟨%f, %hf, H⟩ Hk
  subst hf
  iapply (wp_store 𝒱 c bd E (m := m) (r := r) (w := w) (hx := hx) (hm := hm) (k := k) (S := m.view.set) (View.set_slice_subset _ _)) $$ H
  iintro H
  iapply Hk
  iexists _
  isplitr
  swap
  · iexact H
  ipureintro
  funext y
  by_cases hy : y ∈ r.set
  · obtain ⟨x, rfl⟩ := r.exists_idx_of_mem hy
    exact (View.read_slice_write_emb _ _ _ (Finset.mem_univ x)).trans (Rect.overlay_emb _ _ _ _).symm
  · exact (View.read_slice_write_of_not_mem _ _ _ _ (by rwa [Rect.map_emb_univ])).trans (Rect.overlay_of_not_mem _ _ _ hy).symm

/-! ## Programs that keep a resource -/

/-- The resource `R` lends the memref for reading. -/
class Reads (R : sProp 𝕄) (m : Memref sig c.2.kind cs s e) : Prop where
  lend : R ⊢ iprop(∃ (q : PosShare TreeShare) (X : s.Idx → Val e), owns c m q X ∗ (owns c m q X -∗ R) : sProp 𝕄)

/-- The resource `R` lends the memref for writing, whatever is written. -/
class Writes (R : sProp 𝕄) (m : Memref sig c.2.kind cs s e) : Prop where
  lend : R ⊢ iprop(∃ X : s.Idx → Val e, owns c m fullShare X ∗ (∀ X' : s.Idx → Val e, owns c m fullShare X' -∗ R) : sProp 𝕄)

/-- What may be written may be read. -/
instance (R : sProp 𝕄) (m : Memref sig c.2.kind cs s e) [h : Writes c R m] : Reads c R m where
  lend := by
    refine h.lend.trans ?_
    iintro ⟨%X, H, Hk⟩
    iexists fullShare, X
    isplitl [H]; · iexact H
    iintro H
    iapply Hk
    iexact H

variable {c} in
/-- A memref owned at some contents may be written. -/
theorem Writes.any {m : Memref sig c.2.kind cs s e} : Writes c (iprop(∃ X : s.Idx → Val e, owns c m fullShare X) : sProp 𝕄) m where
  lend := by
    iintro ⟨%X, H⟩
    iexists X
    isplitl [H]; · iexact H
    iintro %X' H
    iexists X'
    iexact H

variable {c} in
/-- A memref owned at known contents may be read. -/
theorem Reads.own {m : Memref sig c.2.kind cs s e} {q : PosShare TreeShare} {X : s.Idx → Val e} : Reads c (owns c m q X : sProp 𝕄) m where
  lend := by
    iintro H
    iexists q, X
    isplitl [H]; · iexact H
    iintro H
    iexact H

variable {c} in
/-- The left part's memrefs may be read. -/
theorem Reads.left {P R : sProp 𝕄} {m : Memref sig c.2.kind cs s e} (h : Reads c P m) : Reads c iprop(P ∗ R) m where
  lend := by
    iintro ⟨H, HR⟩
    ihave H := h.lend $$ H
    icases H with ⟨%q, %X, H, Hr⟩
    iexists q, X
    isplitl [H]; · iexact H
    iintro H
    isplitl [H Hr]
    · iapply Hr; iexact H
    iexact HR

variable {c} in
/-- The right part's memrefs may be read. -/
theorem Reads.right {P R : sProp 𝕄} {m : Memref sig c.2.kind cs s e} (h : Reads c R m) : Reads c iprop(P ∗ R) m where
  lend := by
    iintro ⟨HP, H⟩
    ihave H := h.lend $$ H
    icases H with ⟨%q, %X, H, Hr⟩
    iexists q, X
    isplitl [H]; · iexact H
    iintro H
    isplitl [HP]; · iexact HP
    iapply Hr; iexact H

variable {c} in
/-- The left part's memrefs may be written. -/
theorem Writes.left {P R : sProp 𝕄} {m : Memref sig c.2.kind cs s e} (h : Writes c P m) : Writes c iprop(P ∗ R) m where
  lend := by
    iintro ⟨H, HR⟩
    ihave H := h.lend $$ H
    icases H with ⟨%X, H, Hr⟩
    iexists X
    isplitl [H]; · iexact H
    iintro %X' H
    isplitl [H Hr]
    · iapply Hr; iexact H
    iexact HR

variable {c} in
/-- The right part's memrefs may be written. -/
theorem Writes.right {P R : sProp 𝕄} {m : Memref sig c.2.kind cs s e} (h : Writes c R m) : Writes c iprop(P ∗ R) m where
  lend := by
    iintro ⟨HP, H⟩
    ihave H := h.lend $$ H
    icases H with ⟨%X, H, Hr⟩
    iexists X
    isplitl [H]; · iexact H
    iintro %X' H
    isplitl [HP]; · iexact HP
    iapply Hr; iexact H

/-- The program runs from the resource `R` and gives it back. -/
def Keeps (defs : Defs nD τ sig Val Λ) (R : sProp 𝕄) (p : Prog (TpuEff nD τ sig Val Λ c.2) α) : Prop :=
  ∀ (E : Set ℕ) (Q : α → sProp 𝕄), iprop(R ∗ (∀ a, R -∗ Q a)) ⊢ wp (M := 𝕄) frame (wpE defs 𝒱 c bd) E p Q

variable {𝒱 c bd}

/-- Returning keeps everything. -/
theorem Keeps.pure {R : sProp 𝕄} (a : α) : Keeps 𝒱 c bd defs R (pure a : Prog (TpuEff nD τ sig Val Λ c.2) α) := by
  intro E Q
  rw [wp_pure]
  iintro ⟨H, Hk⟩
  imodintro
  iapply Hk
  iexact H

/-- A sequence keeps what both of its parts keep. -/
theorem Keeps.bind {R : sProp 𝕄} {p : Prog (TpuEff nD τ sig Val Λ c.2) β} {k : β → Prog (TpuEff nD τ sig Val Λ c.2) α}
    (hp : Keeps 𝒱 c bd defs R p) (hk : ∀ b, Keeps 𝒱 c bd defs R (k b)) : Keeps 𝒱 c bd defs R (p >>= k) := by
  intro E Q
  rw [wp_bind]
  iintro ⟨H, Hk⟩
  iapply (hp E _)
  isplitl [H]; · iexact H
  iintro %b H
  iapply (hk b E Q)
  isplitl [H]; · iexact H
  iexact Hk

/-- A load keeps a resource that lends the memref. -/
theorem Keeps.load {R : sProp 𝕄} {m : Memref sig c.2.kind cs s e} [h : Reads c R m] {r : Rect s} {hl : m.view.LoadsAt r.toLoadRect}
    {k : (r.shape.Idx → Val e) → Prog (TpuEff nD τ sig Val Λ c.2) α} (hk : ∀ b, Keeps 𝒱 c bd defs R (k b)) :
    Keeps 𝒱 c bd defs R (Prog.lift (.load m r.toLoadRect hl) >>= k) := by
  intro E Q
  iintro ⟨H, Hk⟩
  ihave H := h.lend $$ H
  icases H with ⟨%q, %X, H, Hr⟩
  iapply (wp_load_owns 𝒱 c bd E) $$ H
  iintro H
  iapply (hk _ E Q)
  isplitl [H Hr]
  · iapply Hr; iexact H
  iexact Hk

/-- A store keeps a resource that lends the memref for writing. -/
theorem Keeps.store {R : sProp 𝕄} {m : Memref sig c.2.kind cs s e} [h : Writes c R m] {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} (hk : Keeps 𝒱 c bd defs R (k ⟨⟩)) :
    Keeps 𝒱 c bd defs R (Prog.lift (.store m r w Finset.univ hx hm) >>= k) := by
  intro E Q
  iintro ⟨H, Hk⟩
  ihave H := h.lend $$ H
  icases H with ⟨%X, H, Hr⟩
  iapply (wp_store_owns 𝒱 c bd E) $$ H
  iintro H
  iapply (hk E Q)
  isplitl [H Hr]
  · iapply Hr; iexact H
  iexact Hk

/-- A load at the end of a program. -/
theorem Keeps.load_last {R : sProp 𝕄} {m : Memref sig c.2.kind cs s e} [h : Reads c R m] {r : Rect s} {hl : m.view.LoadsAt r.toLoadRect} :
    Keeps 𝒱 c bd defs R (Prog.lift (.load m r.toLoadRect hl) : Prog (TpuEff nD τ sig Val Λ c.2) (r.shape.Idx → Val e)) :=
  Keeps.load (k := .ret) fun _ => Keeps.pure _

/-- A store at the end of a program. -/
theorem Keeps.store_last {R : sProp 𝕄} {m : Memref sig c.2.kind cs s e} [h : Writes c R m] {r : Rect s} {w : r.shape.Idx → Val e} {hx : (m.access r).Stores Finset.univ}
    {hm : (Finset.univ : Finset r.shape.Idx) = Finset.univ ∨ ∀ a, r.stride a = 1} :
    Keeps 𝒱 c bd defs R (Prog.lift (.store m r w Finset.univ hx hm) : Prog (TpuEff nD τ sig Val Λ c.2) PUnit) :=
  Keeps.store (k := .ret) (Keeps.pure _)

/-- A conditional keeps what both of its arms keep. -/
theorem Keeps.dite {R : sProp 𝕄} {P : Prop} [Decidable P] {p : P → Prog (TpuEff nD τ sig Val Λ c.2) α} {q : ¬ P → Prog (TpuEff nD τ sig Val Λ c.2) α}
    (hp : ∀ h, Keeps 𝒱 c bd defs R (p h)) (hq : ∀ h, Keeps 𝒱 c bd defs R (q h)) : Keeps 𝒱 c bd defs R (dite P p q) := by
  by_cases h : P
  · rw [dif_pos h]; exact hp h
  · rw [dif_neg h]; exact hq h

/-- The same without the evidence. -/
theorem Keeps.ite {R : sProp 𝕄} {P : Prop} [Decidable P] {p q : Prog (TpuEff nD τ sig Val Λ c.2) α}
    (hp : Keeps 𝒱 c bd defs R p) (hq : Keeps 𝒱 c bd defs R q) : Keeps 𝒱 c bd defs R (if P then p else q) := by
  by_cases h : P
  · rw [if_pos h]; exact hp
  · rw [if_neg h]; exact hq

end Cert.Hand

end
-- ==== Proof.KernelKeeps.lean ====
/- The kernel's body keeps what it works on: whatever its buffers hold, it reads its seven inputs and overwrites only its
   output and its scratch. -/
module

public import proofs.«01_k».proof.Proof.Ops
public import proofs.«01_k».proof.Proof.Gen.Kernel.Frame
public import proofs.«01_k».proof.Proof.Gen.Kernel.Skeleton

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand Cert.Kernel.Gen

variable {F : FTy → Type} [FloatOps F]

local notation "𝕄" => MT nD τ sig Unit (Elt F) ℕ (UR sig nD τ) ℕ

set_option maxHeartbeats 4000000 in
/-- The body at any grid point keeps a resource that lends its inputs for reading, its output and its scratch for writing. -/
theorem keeps_body (d : Dev nD) (R : sProp 𝕄) (i : grid0.Coords) (arg1 : Memref sig .tc .vmem S2048x256 .f32) (harg1 : arg1.IsWhole) (arg2 : Memref sig .tc .vmem S1024x2048 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S8x256x256 .f32) (harg7 : arg7.IsWhole) (arg8 : Memref sig .tc .vmem S2048x256 .f32) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S1x2048 .f32) (harg15 : arg15.IsWhole)
    [Reads (d : Thread nD τ) R arg1] [Reads (d : Thread nD τ) R arg2] [Reads (d : Thread nD τ) R arg3] [Reads (d : Thread nD τ) R arg4] [Reads (d : Thread nD τ) R arg5] [Reads (d : Thread nD τ) R arg6] [Reads (d : Thread nD τ) R arg7] [Writes (d : Thread nD τ) R arg8] [Writes (d : Thread nD τ) R arg9] [Writes (d : Thread nD τ) R arg10] [Writes (d : Thread nD τ) R arg11] [Writes (d : Thread nD τ) R arg12] [Writes (d : Thread nD τ) R arg13] [Writes (d : Thread nD τ) R arg14] [Writes (d : Thread nD τ) R arg15] :
    Keeps Variants.none (d : Thread nD τ) none (defs₀ (F := F)) R (cc0__gcnii_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  rw [cc0__gcnii_body_eq_skeleton]
  unfold cc0__gcnii_body_skel
  dsimp only
  repeat' first
    | with_reducible exact Keeps.pure _
    | with_reducible exact Keeps.store_last
    | with_reducible exact Keeps.load_last
    | with_reducible refine Keeps.load fun _ => ?_
    | with_reducible refine Keeps.store ?_
    | with_reducible refine Keeps.bind ?_ fun _ => ?_
    | with_reducible refine Keeps.dite (fun _ => ?_) (fun _ => ?_)
    | split
    | simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel]

end Cert.Kernel.Hand

end
-- ==== Proof.KernelFrame.lean ====
/- The frame of the kernel as compiled: it terminates without a fault from any memory and leaves its arguments as they were. -/
module

public import proofs.«01_k».proof.Proof.KernelKeeps

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight staging memrefs at a point and the seven scratch memrefs. -/
abbrev sc0 : Memref sig .tc .vmem S2048x2048 .bf16 := Memref.whole cc0_scratch0
abbrev sc1 : Memref sig .tc .vmem S256x2048 .bf16 := Memref.whole cc0_scratch1
abbrev sc2 : Memref sig .tc .vmem S256x2048 .bf16 := Memref.whole cc0_scratch2
abbrev sc3 : Memref sig .tc .vmem S256x2048 .f32 := Memref.whole cc0_scratch3
abbrev sc4 : Memref sig .tc .vmem S256x2048 .f32 := Memref.whole cc0_scratch4
abbrev sc5 : Memref sig .tc .vmem S256x2048 .f32 := Memref.whole cc0_scratch5
abbrev sc6 : Memref sig .tc .vmem S1x2048 .f32 := Memref.whole cc0_scratch6

/-- The scratch at any contents. -/
abbrev anyScratch (c : Dev nD) : sProp 𝕄 :=
  iprop((∃ d, owns (c : Thread nD τ) sc0 fullShare d) ∗ (∃ d, owns (c : Thread nD τ) sc1 fullShare d) ∗ (∃ d, owns (c : Thread nD τ) sc2 fullShare d)
    ∗ (∃ d, owns (c : Thread nD τ) sc3 fullShare d) ∗ (∃ d, owns (c : Thread nD τ) sc4 fullShare d) ∗ (∃ d, owns (c : Thread nD τ) sc5 fullShare d)
    ∗ (∃ d, owns (c : Thread nD τ) sc6 fullShare d))

/-- What the launch hands the region is the scratch at any contents and the generator register at some state. -/
theorem PhiA_eq (c : Dev nD) : (Pipeline.ΦA spec0 c : sProp 𝕄) = iprop(anyScratch c ∗ (∃ r, prngReg c r)) := by
  unfold Pipeline.ΦA; rw [scopedRest0_eq]; simp only [anyScratch, sc0, sc1, sc2, sc3, sc4, sc5, sc6, owns_whole]; try rfl

/-- The proof data: the inputs' buffers hold their blocks; of the output's nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- The output window, which nothing is said of. -/
def forgets : Fin 8 → Bool := fun w => w.val == 7

/-- What the body is called with at a point, and what it gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

@[inherit_doc bodyPre] def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (st0_7 t) fullShare d))

/-- An input window is used at every point: its buffer is left at its block. -/
theorem leaves_input (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What the body works on at a point: the scratch, the inputs at their blocks, the output at anything. -/
abbrev rest (c : Dev nD) (t : Fin cfg0.N) : sProp 𝕄 :=
  iprop(anyScratch c ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ (∃ d, owns (c : Thread nD τ) (st0_7 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [leaves_input m c t 0 rfl, leaves_input m c t 1 rfl, leaves_input m c t 2 rfl, leaves_input m c t 3 rfl, leaves_input m c t 4 rfl, leaves_input m c t 5 rfl, leaves_input m c t 6 rfl]
  rw [after0_0, after0_1, after0_2, after0_3, after0_4, after0_5, after0_6]
  iintro ⟨⟨Hs, Hg⟩, Ho, ⟨%d0, H0⟩, ⟨%d1, H1⟩, ⟨%d2, H2⟩, ⟨%d3, H3⟩, ⟨%d4, H4⟩, ⟨%d5, H5⟩, ⟨%d6, H6⟩, H7⟩
  rw [before0_0_of m (dats m 0 c) (A_eq m c 0) (after0_0 m c) t d0]
  rw [before0_1_of m (dats m 0 c) (A_eq m c 1) (after0_1 m c) t d1]
  rw [before0_2_of m (dats m 0 c) (A_eq m c 2) (after0_2 m c) t d2]
  rw [before0_3_of m (dats m 0 c) (A_eq m c 3) (after0_3 m c) t d3]
  rw [before0_4_of m (dats m 0 c) (A_eq m c 4) (after0_4 m c) t d4]
  rw [before0_5_of m (dats m 0 c) (A_eq m c 5) (after0_5 m c) t d5]
  rw [before0_6_of m (dats m 0 c) (A_eq m c 6) (after0_6 m c) t d6]
  haveI : Writes (c : Thread nD τ) (rest m c t) sc0 := (Writes.left (Writes.left Writes.any))
  haveI : Writes (c : Thread nD τ) (rest m c t) sc1 := (Writes.left (Writes.right (Writes.left Writes.any)))
  haveI : Writes (c : Thread nD τ) (rest m c t) sc2 := (Writes.left (Writes.right (Writes.right (Writes.left Writes.any))))
  haveI : Writes (c : Thread nD τ) (rest m c t) sc3 := (Writes.left (Writes.right (Writes.right (Writes.right (Writes.left Writes.any)))))
  haveI : Writes (c : Thread nD τ) (rest m c t) sc4 := (Writes.left (Writes.right (Writes.right (Writes.right (Writes.right (Writes.left Writes.any))))))
  haveI : Writes (c : Thread nD τ) (rest m c t) sc5 := (Writes.left (Writes.right (Writes.right (Writes.right (Writes.right (Writes.right (Writes.left Writes.any)))))))
  haveI : Writes (c : Thread nD τ) (rest m c t) sc6 := (Writes.left (Writes.right (Writes.right (Writes.right (Writes.right (Writes.right (Writes.right Writes.any)))))))
  haveI : Reads (c : Thread nD τ) (rest m c t) (st0_0 t) := (Reads.right (Reads.left Reads.own))
  haveI : Reads (c : Thread nD τ) (rest m c t) (st0_1 t) := (Reads.right (Reads.right (Reads.left Reads.own)))
  haveI : Reads (c : Thread nD τ) (rest m c t) (st0_2 t) := (Reads.right (Reads.right (Reads.right (Reads.left Reads.own))))
  haveI : Reads (c : Thread nD τ) (rest m c t) (st0_3 t) := (Reads.right (Reads.right (Reads.right (Reads.right (Reads.left Reads.own)))))
  haveI : Reads (c : Thread nD τ) (rest m c t) (st0_4 t) := (Reads.right (Reads.right (Reads.right (Reads.right (Reads.right (Reads.left Reads.own))))))
  haveI : Reads (c : Thread nD τ) (rest m c t) (st0_5 t) := (Reads.right (Reads.right (Reads.right (Reads.right (Reads.right (Reads.right (Reads.left Reads.own)))))))
  haveI : Reads (c : Thread nD τ) (rest m c t) (st0_6 t) := (Reads.right (Reads.right (Reads.right (Reads.right (Reads.right (Reads.right (Reads.right (Reads.left Reads.own))))))))
  haveI : Writes (c : Thread nD τ) (rest m c t) (st0_7 t) := (Writes.right (Writes.right (Writes.right (Writes.right (Writes.right (Writes.right (Writes.right (Writes.right Writes.any))))))))
  iapply (keeps_body c (rest m c t) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) Set.univ _)
  isplitl [Hs H0 H1 H2 H3 H4 H5 H6 H7]
  · isplitl [Hs]; · iexact Hs
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %_ ⟨Hs, H0, H1, H2, H3, H4, H5, H6, H7⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body obligation with the output forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 1600000 in
/-- The launch: the arrays the windows stage and every other buffer end as they were, the output apart, every counter at zero. -/
theorem run_quiescent : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      ((h.1.arr_in c 0 rfl).trans (A_eq m c 0)).trans (V_main_arg0 m c),
      ((h.1.arr_in c 1 rfl).trans (A_eq m c 1)).trans (V_main_arg1 m c),
      ((h.1.arr_in c 2 rfl).trans (A_eq m c 2)).trans (V_main_arg2 m c),
      ((h.1 c).2 main_arg3 (Pipeline.mem_restRefs_of main_arg3 (by decide) (by decide))).trans (V_main_arg3 m c),
      ((h.1.arr_in c 4 rfl).trans (A_eq m c 4)).trans (V_main_arg4 m c),
      ((h.1 c).2 main_arg5 (Pipeline.mem_restRefs_of main_arg5 (by decide) (by decide))).trans (V_main_arg5 m c),
      ((h.1.arr_in c 6 rfl).trans (A_eq m c 6)).trans (V_main_arg6 m c)⟩, h.2⟩) (run_quiescent m ρ)

end Cert.Kernel.Hand

end
-- ==== Proof.Layers.lean ====
/- The last grid step of the idealized kernel, regrouped: the diagonal is fixed block by block, the degrees become the
   normalisation, eight layers follow (each one of them the same program at its own two constants and buffers), and the
   output product closes it. `part26_eq` states that the printed program is this regrouped one. -/
module

public import proofs.«01_k».proof.Proof.Gen.KernelIdeal.Skeleton

@[expose] public section

noncomputable section

namespace Cert.KernelIdeal.Hand

open Idealize.ShloMosaic Idealize.SL.Sem
open Cert.KernelIdeal.Gen

variable {F : FTy → Type} [FloatOps F] [Named F]

/-! ## What one column chunk and one diagonal block need to be in range -/

/-- The 512 columns from `o` on lie within the 2048 columns of every array that is read or written by chunks. -/
structure Chunk (o : ℕ) : Prop where
  adj : ∀ a, (![0, o] : Fin 2 → ℕ) a + S2048x512.size a ≤ S2048x2048.size a
  feat : ∀ a, (![0, o] : Fin 2 → ℕ) a + S256x512.size a ≤ S256x2048.size a
  row : S1x2048.Slices ![0, o] S1x512
  packed : (Rect.unit (s := S256x2048) ![0, o] S256x512.size feat).PackedRows (EltTy.packing .bf16)

theorem chunk0 : Chunk 0 :=
  ⟨inb_S2048x2048_S2048x512_0_0, inb_S256x2048_S256x512_0_0, slices_S1x2048_o0_0_S1x512, packedbf16_S256x2048_S256x512_0_0⟩
theorem chunk1 : Chunk 512 :=
  ⟨inb_S2048x2048_S2048x512_0_512, inb_S256x2048_S256x512_0_512, slices_S1x2048_o0_512_S1x512, packedbf16_S256x2048_S256x512_0_512⟩
theorem chunk2 : Chunk 1024 :=
  ⟨inb_S2048x2048_S2048x512_0_1024, inb_S256x2048_S256x512_0_1024, slices_S1x2048_o0_1024_S1x512, packedbf16_S256x2048_S256x512_0_1024⟩
theorem chunk3 : Chunk 1536 :=
  ⟨inb_S2048x2048_S2048x512_0_1536, inb_S256x2048_S256x512_0_1536, slices_S1x2048_o0_1536_S1x512, packedbf16_S256x2048_S256x512_0_1536⟩

/-- The 256 × 256 block on the diagonal from `o` on lies within the adjacency array. -/
structure Block (o : ℕ) : Prop where
  adj : ∀ a, (![o, o] : Fin 2 → ℕ) a + S256x256.size a ≤ S2048x2048.size a
  packed : (Rect.unit (s := S2048x2048) ![o, o] S256x256.size adj).PackedRows (EltTy.packing .bf16)

theorem block0 : Block 0 := ⟨inb_S2048x2048_S256x256_0_0, packedbf16_S2048x2048_S256x256_0_0⟩
theorem block1 : Block 256 := ⟨inb_S2048x2048_S256x256_256_256, packedbf16_S2048x2048_S256x256_256_256⟩
theorem block2 : Block 512 := ⟨inb_S2048x2048_S256x256_512_512, packedbf16_S2048x2048_S256x256_512_512⟩
theorem block3 : Block 768 := ⟨inb_S2048x2048_S256x256_768_768, packedbf16_S2048x2048_S256x256_768_768⟩
theorem block4 : Block 1024 := ⟨inb_S2048x2048_S256x256_1024_1024, packedbf16_S2048x2048_S256x256_1024_1024⟩
theorem block5 : Block 1280 := ⟨inb_S2048x2048_S256x256_1280_1280, packedbf16_S2048x2048_S256x256_1280_1280⟩
theorem block6 : Block 1536 := ⟨inb_S2048x2048_S256x256_1536_1536, packedbf16_S2048x2048_S256x256_1536_1536⟩
theorem block7 : Block 1792 := ⟨inb_S2048x2048_S256x256_1792_1792, packedbf16_S2048x2048_S256x256_1792_1792⟩

/-- Slice `l` of the eight weight matrices is in range. -/
abbrev RowAt (l : ℕ) : Prop := ∀ a, (![l, 0, 0] : Fin 3 → ℕ) a + S1x256x256.size a ≤ S8x256x256.size a

/-! ## The values stored -/

/-- A diagonal block with ones put on its diagonal. -/
def fixedBlock (v : Vec F S256x256 .bf16) : FVec F S256x256 .f32 :=
  select (cmpi .eq (iota .tc S256x256 32 [0] iota_S256x256_d0_w32) (iota .tc S256x256 32 [1] iota_S256x256_d1_w32))
    (broadcast S256x256 (Scalar.ofBits .f32 0x3F800000#32)) (extf .f32 v bitsLt_bf16_f32)

/-- The same as it is stored. -/
def storedBlock (v : Vec F S256x256 .bf16) : FVec F S256x256 .bf16 :=
  shapeCast S256x256 (truncf .bf16 (fixedBlock v) bitsLt_bf16_f32) shapeCasts_S256x256_S256x256

/-- What fixing a diagonal block adds to the column sums. -/
def blockGain (v : Vec F S256x256 .bf16) : FVec F S1x256 .f32 :=
  shapeCast S1x256 (multiReduction .add [0] S256 (subf (fixedBlock v) (extf .f32 v bitsLt_bf16_f32)) 0x00000000#32 reduces_S256x256_S256 (.inl rfl) rfl)
    shapeCasts_S256_S1x256

/-- The reciprocal square root of the degrees, from the eight diagonal blocks and the column sums. -/
def dinvOf (b0 b1 b2 b3 b4 b5 b6 b7 : Vec F S256x256 .bf16) (deg : Vec F S1x2048 .f32) : FVec F S1x2048 .f32 :=
  rsqrt (addf deg (concatenate S1x2048 1 [⟨S1x256, blockGain b0⟩, ⟨S1x256, blockGain b1⟩, ⟨S1x256, blockGain b2⟩, ⟨S1x256, blockGain b3⟩,
    ⟨S1x256, blockGain b4⟩, ⟨S1x256, blockGain b5⟩, ⟨S1x256, blockGain b6⟩, ⟨S1x256, blockGain b7⟩]
    concatenates_S1x256_S1x256_S1x256_S1x256_S1x256_S1x256_S1x256_S1x256_S1x2048_d1))

/-- A constant times a row. -/
def rowTimes (g : F .f32) (d : FVec F S1x2048 .f32) : FVec F S1x2048 .f32 := mulf (broadcast S1x2048 g) d

/-- The first layer's scaled features. -/
def firstScaled (d : FVec F S1x2048 .f32) (h : Vec F S256x2048 .f32) : FVec F S256x2048 .bf16 :=
  shapeCast S256x2048 (truncf .bf16 (mulf (broadcastTo S256x2048 d broadcasts_S1x2048_S256x2048) h) bitsLt_bf16_f32) shapeCasts_S256x2048_S256x2048

/-- A layer's weights: the transposed matrix times its constant. -/
def weightOf (g : F .f32) (w : Vec F S1x256x256 .f32) : FVec F S256x256 .bf16 :=
  truncf .bf16 (mulf (broadcast S256x256 g) (transpose S256x256 [1, 0] (shapeCast S256x256 w shapeCasts_S1x256x256_S256x256) transposes_S256x256_p1_0_S256x256)) bitsLt_bf16_f32

/-- A chunk of the propagated features: the product with the adjacency columns, scaled, plus the residual. -/
def mixVal {o : ℕ} (ho : Chunk o) (dv : FVec F S1x2048 .f32) (us : Vec F S256x2048 .bf16) (a : Vec F S2048x512 .bf16) (h : Vec F S256x512 .f32) :
    FVec F S256x512 .f32 :=
  shapeCast S256x512 (addf (mulf (matmul dot_S256x2048_S2048x512_S256x512_1_0_0_1_n_n none us a (constant S256x512 .f32 0x00000000#32))
    (broadcastTo S256x512 (extractStridedSlice S1x512 ![0, o] dv ho.row) broadcasts_S1x512_S256x512)) h) shapeCasts_S256x512_S256x512

/-- A chunk after the weights and the rectifier. -/
def reluVal (w : FVec F S256x256 .bf16) (m : Vec F S256x512 .f32) : FVec F S256x512 .f32 :=
  maximumf (addf m (matmul dot_S256x256_S256x512_S256x512_1_0_0_1_n_n none w (truncf .bf16 m bitsLt_bf16_f32) (constant S256x512 .f32 0x00000000#32)))
    (broadcast S256x512 (Scalar.ofBits .f32 0x00000000#32))

/-- The same, scaled for the next layer. -/
def actVal {o : ℕ} (ho : Chunk o) (w : FVec F S256x256 .bf16) (dvg : FVec F S1x2048 .f32) (m : Vec F S256x512 .f32) : FVec F S256x512 .bf16 :=
  shapeCast S256x512 (truncf .bf16 (mulf (reluVal w m)
    (broadcastTo S256x512 (extractStridedSlice S1x512 ![0, o] dvg ho.row) broadcasts_S1x512_S256x512)) bitsLt_bf16_f32) shapeCasts_S256x512_S256x512

/-- The same in the last layer, not scaled. -/
def lastVal (w : FVec F S256x256 .bf16) (m : Vec F S256x512 .f32) : FVec F S256x512 .f32 :=
  shapeCast S256x512 (reluVal w m) shapeCasts_S256x512_S256x512

/-! ## The programs -/

/-- Fix one diagonal block; the block as it was is returned. -/
def fixBlock {o : ℕ} (ho : Block o) (adj : Memref sig .tc .vmem S2048x2048 .bf16) (hadj : adj.IsWhole) :
    Prog (TpuEff nD τ sig (Elt F) Λ₀ .tc) (Vec F S256x256 .bf16) := do
  let v : Vec F S256x256 .bf16 ← Prog.lift (.load adj (Rect.unit (s := S2048x2048) ![o, o] S256x256.size ho.adj).toLoadRect (View.loadsAt_vmem h_S256x256))
  let _v : Vec F S256x256 .bf16 ← Prog.lift (.load adj (Rect.unit (s := S2048x2048) ![o, o] S256x256.size ho.adj).toLoadRect (View.loadsAt_vmem h_S256x256))
  Prog.lift (.store adj (Rect.unit (s := S2048x2048) ![o, o] S256x256.size ho.adj) (storedBlock v) Finset.univ (View.stores_vmem h_S256x256 (hadj.storeExact_slice rfl _ ho.packed) (fun _ => rfl)) (.inl rfl))
  pure v

/-- Propagate one chunk of columns into `mix`. -/
def mixChunk {o : ℕ} (ho : Chunk o) (adj : Memref sig .tc .vmem S2048x2048 .bf16) (res mix : Memref sig .tc .vmem S256x2048 .f32)
    (dv : FVec F S1x2048 .f32) (us : Vec F S256x2048 .bf16) : Prog (TpuEff nD τ sig (Elt F) Λ₀ .tc) PUnit := do
  let a : Vec F S2048x512 .bf16 ← Prog.lift (.load adj (Rect.unit (s := S2048x2048) ![0, o] S2048x512.size ho.adj).toLoadRect (View.loadsAt_vmem h_S2048x512))
  let h : Vec F S256x512 .f32 ← Prog.lift (.load res (Rect.unit (s := S256x2048) ![0, o] S256x512.size ho.feat).toLoadRect (View.loadsAt_vmem h_S256x512))
  let _m : Vec F S256x512 .f32 ← Prog.lift (.load mix (Rect.unit (s := S256x2048) ![0, o] S256x512.size ho.feat).toLoadRect (View.loadsAt_vmem h_S256x512))
  Prog.lift (.store mix (Rect.unit (s := S256x2048) ![0, o] S256x512.size ho.feat) (mixVal ho dv us a h) Finset.univ (View.stores_vmem_bits_univ h_S256x512 rfl) (.inl rfl))

/-- Turn one chunk of `mix` into the next layer's scaled features. -/
def actChunk {o : ℕ} (ho : Chunk o) (mix : Memref sig .tc .vmem S256x2048 .f32) (dst : Memref sig .tc .vmem S256x2048 .bf16) (hdst : dst.IsWhole)
    (w : FVec F S256x256 .bf16) (dvg : FVec F S1x2048 .f32) : Prog (TpuEff nD τ sig (Elt F) Λ₀ .tc) PUnit := do
  let m : Vec F S256x512 .f32 ← Prog.lift (.load mix (Rect.unit (s := S256x2048) ![0, o] S256x512.size ho.feat).toLoadRect (View.loadsAt_vmem h_S256x512))
  let _d : Vec F S256x512 .bf16 ← Prog.lift (.load dst (Rect.unit (s := S256x2048) ![0, o] S256x512.size ho.feat).toLoadRect (View.loadsAt_vmem h_S256x512))
  Prog.lift (.store dst (Rect.unit (s := S256x2048) ![0, o] S256x512.size ho.feat) (actVal ho w dvg m) Finset.univ (View.stores_vmem h_S256x512 (hdst.storeExact_slice rfl _ ho.packed) (fun _ => rfl)) (.inl rfl))

/-- Turn one chunk of `mix` into the last layer's features. -/
def lastChunk {o : ℕ} (ho : Chunk o) (mix out : Memref sig .tc .vmem S256x2048 .f32)
    (w : FVec F S256x256 .bf16) : Prog (TpuEff nD τ sig (Elt F) Λ₀ .tc) PUnit := do
  let m : Vec F S256x512 .f32 ← Prog.lift (.load mix (Rect.unit (s := S256x2048) ![0, o] S256x512.size ho.feat).toLoadRect (View.loadsAt_vmem h_S256x512))
  let _d : Vec F S256x512 .f32 ← Prog.lift (.load out (Rect.unit (s := S256x2048) ![0, o] S256x512.size ho.feat).toLoadRect (View.loadsAt_vmem h_S256x512))
  Prog.lift (.store out (Rect.unit (s := S256x2048) ![0, o] S256x512.size ho.feat) (lastVal w m) Finset.univ (View.stores_vmem_bits_univ h_S256x512 rfl) (.inl rfl))

/-- Propagate: all four chunks. -/
def mixAll (adj : Memref sig .tc .vmem S2048x2048 .bf16) (res mix : Memref sig .tc .vmem S256x2048 .f32)
    (dv : FVec F S1x2048 .f32) (us : Vec F S256x2048 .bf16) : Prog (TpuEff nD τ sig (Elt F) Λ₀ .tc) PUnit := do
  mixChunk chunk0 adj res mix dv us
  mixChunk chunk1 adj res mix dv us
  mixChunk chunk2 adj res mix dv us
  mixChunk chunk3 adj res mix dv us

/-- One of the first seven layers: from the scaled features in `src` to those in `dst`. -/
def layer {l : ℕ} (hl : RowAt l) (ratio gain : F .f32) (wts : Memref sig .tc .vmem S8x256x256 .f32) (adj : Memref sig .tc .vmem S2048x2048 .bf16)
    (src dst : Memref sig .tc .vmem S256x2048 .bf16) (hdst : dst.IsWhole) (res mix : Memref sig .tc .vmem S256x2048 .f32)
    (d dv : FVec F S1x2048 .f32) : Prog (TpuEff nD τ sig (Elt F) Λ₀ .tc) PUnit := do
  let w : Vec F S1x256x256 .f32 ← Prog.lift (.load wts (Rect.unit (s := S8x256x256) ![l, 0, 0] S1x256x256.size hl).toLoadRect (View.loadsAt_vmem h_S1x256x256))
  let us : Vec F S256x2048 .bf16 ← Prog.lift (.load src (Rect.unit (s := S256x2048) ![0, 0] S256x2048.size inb_S256x2048_S256x2048_0_0).toLoadRect (View.loadsAt_vmem h_S256x2048))
  mixAll adj res mix dv us
  actChunk chunk0 mix dst hdst (weightOf ratio w) (rowTimes gain d)
  actChunk chunk1 mix dst hdst (weightOf ratio w) (rowTimes gain d)
  actChunk chunk2 mix dst hdst (weightOf ratio w) (rowTimes gain d)
  actChunk chunk3 mix dst hdst (weightOf ratio w) (rowTimes gain d)

/-- The last layer: from the scaled features in `src` to the features in `out`. -/
def lastLayer {l : ℕ} (hl : RowAt l) (ratio : F .f32) (wts : Memref sig .tc .vmem S8x256x256 .f32) (adj : Memref sig .tc .vmem S2048x2048 .bf16)
    (src : Memref sig .tc .vmem S256x2048 .bf16) (res mix out : Memref sig .tc .vmem S256x2048 .f32)
    (dv : FVec F S1x2048 .f32) : Prog (TpuEff nD τ sig (Elt F) Λ₀ .tc) PUnit := do
  let w : Vec F S1x256x256 .f32 ← Prog.lift (.load wts (Rect.unit (s := S8x256x256) ![l, 0, 0] S1x256x256.size hl).toLoadRect (View.loadsAt_vmem h_S1x256x256))
  let us : Vec F S256x2048 .bf16 ← Prog.lift (.load src (Rect.unit (s := S256x2048) ![0, 0] S256x2048.size inb_S256x2048_S256x2048_0_0).toLoadRect (View.loadsAt_vmem h_S256x2048))
  mixAll adj res mix dv us
  lastChunk chunk0 mix out (weightOf ratio w)
  lastChunk chunk1 mix out (weightOf ratio w)
  lastChunk chunk2 mix out (weightOf ratio w)
  lastChunk chunk3 mix out (weightOf ratio w)

/-- The diagonal fixed and the normalisation computed; the first layer's scaled features stored in `src`. -/
def prepare (adj : Memref sig .tc .vmem S2048x2048 .bf16) (hadj : adj.IsWhole) (deg : Memref sig .tc .vmem S1x2048 .f32)
    (ht : Memref sig .tc .vmem S256x2048 .f32) (src : Memref sig .tc .vmem S256x2048 .bf16) (hsrc : src.IsWhole) :
    Prog (TpuEff nD τ sig (Elt F) Λ₀ .tc) (FVec F S1x2048 .f32) := do
  let b0 ← fixBlock block0 adj hadj
  let b1 ← fixBlock block1 adj hadj
  let b2 ← fixBlock block2 adj hadj
  let b3 ← fixBlock block3 adj hadj
  let b4 ← fixBlock block4 adj hadj
  let b5 ← fixBlock block5 adj hadj
  let b6 ← fixBlock block6 adj hadj
  let b7 ← fixBlock block7 adj hadj
  let g : Vec F S1x2048 .f32 ← Prog.lift (.load deg (Rect.unit (s := S1x2048) ![0, 0] S1x2048.size inb_S1x2048_S1x2048_0_0).toLoadRect (View.loadsAt_vmem h_S1x2048))
  let h : Vec F S256x2048 .f32 ← Prog.lift (.load ht (Rect.unit (s := S256x2048) ![0, 0] S256x2048.size inb_S256x2048_S256x2048_0_0).toLoadRect (View.loadsAt_vmem h_S256x2048))
  let _s : Vec F S256x2048 .bf16 ← Prog.lift (.load src (Rect.unit (s := S256x2048) ![0, 0] S256x2048.size inb_S256x2048_S256x2048_0_0).toLoadRect (View.loadsAt_vmem h_S256x2048))
  Prog.lift (.store src (Rect.unit (s := S256x2048) ![0, 0] S256x2048.size inb_S256x2048_S256x2048_0_0) (firstScaled (dinvOf b0 b1 b2 b3 b4 b5 b6 b7 g) h) Finset.univ (View.stores_vmem h_S256x2048 (hsrc.storeExact_slice rfl _ packedbf16_S256x2048_S256x2048_0_0) (fun _ => rfl)) (.inl rfl))
  pure (dinvOf b0 b1 b2 b3 b4 b5 b6 b7 g)

/-- The output product. -/
def finish (w1 : Memref sig .tc .vmem S256x256 .f32) (b1 : Memref sig .tc .vmem S1x256 .f32) (ht : Memref sig .tc .vmem S256x2048 .f32) :
    Prog (TpuEff nD τ sig (Elt F) Λ₀ .tc) (FVec F S2048x256 .f32) := do
  let w : Vec F S256x256 .f32 ← Prog.lift (.load w1 (Rect.unit (s := S256x256) ![0, 0] S256x256.size inb_S256x256_S256x256_0_0).toLoadRect (View.loadsAt_vmem h_S256x256))
  let h : Vec F S256x2048 .f32 ← Prog.lift (.load ht (Rect.unit (s := S256x2048) ![0, 0] S256x2048.size inb_S256x2048_S256x2048_0_0).toLoadRect (View.loadsAt_vmem h_S256x2048))
  let b : Vec F S1x256 .f32 ← Prog.lift (.load b1 (Rect.unit (s := S1x256) ![0, 0] S1x256.size inb_S1x256_S1x256_0_0).toLoadRect (View.loadsAt_vmem h_S1x256))
  pure (k0_pay133 w h b)

/-- The nine tenths the propagated part is scaled by, as the word the kernel holds. -/
abbrev nine : F .f32 := Scalar.ofBits .f32 0x3F666666#32

/-- The whole of the last grid step up to its store. -/
def lastStep (w1 : Memref sig .tc .vmem S256x256 .f32) (b1 : Memref sig .tc .vmem S1x256 .f32) (wts : Memref sig .tc .vmem S8x256x256 .f32)
    (adj : Memref sig .tc .vmem S2048x2048 .bf16) (hadj : adj.IsWhole) (ua : Memref sig .tc .vmem S256x2048 .bf16) (hua : ua.IsWhole)
    (ub : Memref sig .tc .vmem S256x2048 .bf16) (hub : ub.IsWhole) (res ht mix : Memref sig .tc .vmem S256x2048 .f32)
    (deg : Memref sig .tc .vmem S1x2048 .f32) : Prog (TpuEff nD τ sig (Elt F) Λ₀ .tc) (FVec F S2048x256 .f32) := do
  let d ← prepare adj hadj deg ht ua hua
  layer inb_S8x256x256_S1x256x256_0_0_0 (Named.named κ "ratio0" 0x3F2E96B4#32) (Scalar.ofBits .f32 0x3F183370#32) wts adj ua ub hub res mix d (rowTimes nine d)
  layer inb_S8x256x256_S1x256x256_1_0_0 (Named.named κ "ratio1" 0x3E931101#32) (Scalar.ofBits .f32 0x3F46E010#32) wts adj ub ua hua res mix d (rowTimes nine d)
  layer inb_S8x256x256_S1x256x256_2_0_0 (Named.named κ "ratio2" 0x3E3A9E15#32) (Scalar.ofBits .f32 0x3F588995#32) wts adj ua ub hub res mix d (rowTimes nine d)
  layer inb_S8x256x256_S1x256x256_3_0_0 (Named.named κ "ratio3" 0x3E08B653#32) (Scalar.ofBits .f32 0x3F61D8F9#32) wts adj ub ua hua res mix d (rowTimes nine d)
  layer inb_S8x256x256_S1x256x256_4_0_0 (Named.named κ "ratio4" 0x3DD7C262#32) (Scalar.ofBits .f32 0x3F6799C1#32) wts adj ua ub hub res mix d (rowTimes nine d)
  layer inb_S8x256x256_S1x256x256_5_0_0 (Named.named κ "ratio5" 0x3DB230B7#32) (Scalar.ofBits .f32 0x3F6B8252#32) wts adj ub ua hua res mix d (rowTimes nine d)
  layer inb_S8x256x256_S1x256x256_6_0_0 (Named.named κ "ratio6" 0x3D97C4B1#32) (Scalar.ofBits .f32 0x3F6E567C#32) wts adj ua ub hub res mix d (rowTimes nine d)
  lastLayer inb_S8x256x256_S1x256x256_7_0_0 (Named.named κ "ratio7" 0x3D842C0F#32) wts adj ub res mix ht (rowTimes nine d)
  finish w1 b1 ht

set_option maxRecDepth 65536 in
/-- The printed last grid step is the regrouped one. -/
theorem part26_eq (i : grid0.Coords) (arg1 : Memref sig .tc .vmem S2048x256 .f32) (harg1 : arg1.IsWhole) (arg2 : Memref sig .tc .vmem S1024x2048 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S8x256x256 .f32) (harg7 : arg7.IsWhole) (arg8 : Memref sig .tc .vmem S2048x256 .f32) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S1x2048 .f32) (harg15 : arg15.IsWhole) :
    k0_part26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = lastStep arg5 arg6 arg7 arg9 harg9 arg10 harg10 arg11 harg11 arg12 arg13 arg14 arg15 := rfl

end Cert.KernelIdeal.Hand

end
-- ==== Proof.Goals.lean ====
/- What the chunks of the last grid step add up to, over the extended reals: each chunk stored is the restriction of one
   function of the whole array, so the four chunks together leave that function. -/
module

public import proofs.«01_k».proof.Proof.Layers
public import Idealize.ShloMosaic.Lib.Memref
public import Idealize.ShloMosaic.Lib.Pipeline.ValueKit.Tiles
public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value
public import Idealize.ShloMosaic.Lib.WordCmp

@[expose] public section

noncomputable section

namespace Cert.KernelIdeal.Hand

open Idealize.ShloMosaic Idealize.ShloMosaic.ValueIdx
open Cert.KernelIdeal.Gen

/-! ## Overwriting by pieces of one function -/

/-- Overwriting a rectangle with a function's values there agrees with that function wherever the old contents did. -/
theorem overlay_ld_of_eq {s : Shape} {α : Type} (r : Rect s) (X g : s.Idx → α) (y : s.Idx) (h : X y = g y) :
    r.overlay X (fun x => g (r.idx x)) y = g y := by
  by_cases hy : y ∈ r.set
  · obtain ⟨x, rfl⟩ := r.exists_idx_of_mem hy
    exact Rect.overlay_emb r X _ x
  · exact (Rect.overlay_of_not_mem r X _ hy).trans h

/-- Overwriting a rectangle with a function's values there agrees with that function in the rectangle. -/
theorem overlay_ld_of_mem {s : Shape} {α : Type} (r : Rect s) (X g : s.Idx → α) (y : s.Idx) (hy : y ∈ r.set) :
    r.overlay X (fun x => g (r.idx x)) y = g y := by
  obtain ⟨x, rfl⟩ := r.exists_idx_of_mem hy
  exact Rect.overlay_emb r X _ x

/-- A load of the whole of an array reads the array. -/
theorem ld_all {Val : EltTy → Type} {e : EltTy} {s : Shape} (X : s.Idx → Val e) (off : Fin s.rank → ℕ) (h : ∀ a, off a + s.size a ≤ s.size a) :
    View.ld X (Rect.unit (s := s) off s.size h) = X := by
  funext x
  exact View.ld_unit_apply_of X _ _ _ _ _ fun a => by have := h a; omega

/-- A store of the whole of an array leaves what is stored. -/
theorem overlay_all {s : Shape} {α : Type} (X G : s.Idx → α) (off : Fin s.rank → ℕ) (h : ∀ a, off a + s.size a ≤ s.size a) :
    (Rect.unit (s := s) off s.size h).overlay X G = G := by
  funext x
  have hx : (Rect.unit (s := s) off s.size h).idx x = x := by
    funext a; refine Fin.ext ?_; rw [Rect.idx_unit_val]; have := h a; omega
  refine Eq.trans ?_ (Rect.overlay_emb (Rect.unit (s := s) off s.size h) X G x)
  exact congrArg _ hx.symm

/-- The columns of one chunk. -/
abbrev cols {o : ℕ} (ho : Chunk o) : Rect S256x2048 := Rect.unit (s := S256x2048) ![0, o] S256x512.size ho.feat

/-- A column belongs to the chunk that starts at most at it and less than 512 before it. -/
theorem mem_cols {o : ℕ} (ho : Chunk o) (y : S256x2048.Idx) (h1 : o ≤ (y 1).val) (h2 : (y 1).val < o + 512) : y ∈ (cols ho).set := by
  refine Rect.mem_set_unit.mpr fun a => ?_
  match a with
  | ⟨0, _⟩ => exact ⟨Nat.zero_le _, by rw [show (![0, o] : Fin 2 → ℕ) ⟨0, by decide⟩ = 0 from rfl, Nat.zero_add]; exact (y 0).isLt⟩
  | ⟨1, _⟩ => exact ⟨h1, h2⟩

/-- Four chunks of one function leave that function. -/
theorem four_chunks {α : Type} (X g : S256x2048.Idx → α) :
    (cols chunk3).overlay ((cols chunk2).overlay ((cols chunk1).overlay ((cols chunk0).overlay X (fun x => g ((cols chunk0).idx x)))
      (fun x => g ((cols chunk1).idx x))) (fun x => g ((cols chunk2).idx x))) (fun x => g ((cols chunk3).idx x)) = g := by
  funext y
  have hy : (y 1).val < 2048 := (y 1).isLt
  by_cases h3 : 1536 ≤ (y 1).val
  · exact overlay_ld_of_mem _ _ _ _ (mem_cols chunk3 y h3 (by omega))
  refine overlay_ld_of_eq _ _ _ _ ?_
  by_cases h2 : 1024 ≤ (y 1).val
  · exact overlay_ld_of_mem _ _ _ _ (mem_cols chunk2 y h2 (by omega))
  refine overlay_ld_of_eq _ _ _ _ ?_
  by_cases h1 : 512 ≤ (y 1).val
  · exact overlay_ld_of_mem _ _ _ _ (mem_cols chunk1 y h1 (by omega))
  refine overlay_ld_of_eq _ _ _ _ ?_
  exact overlay_ld_of_mem _ _ _ _ (mem_cols chunk0 y (by omega) (by omega))

/-! ## The whole-array functions -/

/-- The propagated features: the product with the adjacency, scaled by column, plus the residual. -/
def mixGoal (dv : FVec Ideal S1x2048 .f32) (us : Vec Ideal S256x2048 .bf16) (A : Vec Ideal S2048x2048 .bf16) (h : Vec Ideal S256x2048 .f32) :
    Vec Ideal S256x2048 .f32 :=
  fun i => (∑ k : Fin 2048, us (ix2 (i 0 : Fin 256) k) * A (ix2 k (i 1 : Fin 2048))) * dv (ix2 (0 : Fin 1) (i 1 : Fin 2048)) + h i

/-- The features after the weights and the rectifier. -/
def reluGoal (w : FVec Ideal S256x256 .bf16) (m : Vec Ideal S256x2048 .f32) : Vec Ideal S256x2048 .f32 :=
  fun i => max (m i + ∑ k : Fin 256, w (ix2 (i 0 : Fin 256) k) * m (ix2 k (i 1 : Fin 2048))) 0

/-- The same, scaled by column for the next layer. -/
def actGoal (w : FVec Ideal S256x256 .bf16) (dvg : FVec Ideal S1x2048 .f32) (m : Vec Ideal S256x2048 .f32) : Vec Ideal S256x2048 .bf16 :=
  fun i => reluGoal w m i * dvg (ix2 (0 : Fin 1) (i 1 : Fin 2048))

theorem dot_mix_eq : dot_S256x2048_S2048x512_S256x512_1_0_0_1_n_n = DotDims.plain 256 2048 512 := rfl
theorem dot_wts_eq : dot_S256x256_S256x512_S256x512_1_0_0_1_n_n = DotDims.plain 256 256 512 := rfl

/-- Where an index of a chunk lies in the whole array. -/
theorem cols_idx {o : ℕ} (ho : Chunk o) (r : Fin 256) (c : Fin 512) :
    (cols ho).idx (ix2 r c) = ix2 r ⟨o + c.val, Nat.lt_of_lt_of_le (Nat.add_lt_add_left c.isLt o) (ho.feat 1)⟩ := by
  funext a; refine Fin.ext ?_
  rw [Rect.idx_unit_val]
  match a with
  | ⟨0, _⟩ => exact Nat.zero_add _
  | ⟨1, _⟩ => rfl

/-- A chunk of the propagated features is the whole-array function there. -/
theorem mixVal_eq {o : ℕ} (ho : Chunk o) (dv : FVec Ideal S1x2048 .f32) (us : Vec Ideal S256x2048 .bf16) (A : Vec Ideal S2048x2048 .bf16)
    (h : Vec Ideal S256x2048 .f32) :
    mixVal ho dv us (View.ld A (Rect.unit (s := S2048x2048) ![0, o] S2048x512.size ho.adj)) (View.ld h (cols ho))
      = fun x => mixGoal dv us A h ((cols ho).idx x) := by
  funext x
  obtain ⟨r, c, rfl⟩ : ∃ (r : Fin 256) (c : Fin 512), x = ix2 r c := ⟨x 0, x 1, eq_ix2 x⟩
  rw [cols_idx]
  unfold mixVal
  rw [shapeCast_self, addf_apply, mulf_apply, broadcastTo_1b_ab_apply, slice2_axis1_eq]
  simp only [matmul]
  rw [dot_mix_eq, Ideal.matmul_plain_apply, View.ld_apply, cols_idx, constant_apply, Ideal.ofBits_zero_f32, zero_add]
  unfold mixGoal
  refine congrArg (fun z : EReal => z * _ + _) (Finset.sum_congr rfl fun k _ => congrArg (fun z : EReal => _ * z) ?_)
  refine View.ld_unit_apply_of A _ _ _ _ _ fun a => ?_
  match a with
  | ⟨0, _⟩ => exact (Nat.zero_add _).symm
  | ⟨1, _⟩ => rfl

/-- A chunk after the weights and the rectifier is the whole-array function there. -/
theorem reluVal_eq {o : ℕ} (ho : Chunk o) (w : FVec Ideal S256x256 .bf16) (m : Vec Ideal S256x2048 .f32) :
    reluVal w (View.ld m (cols ho)) = fun x => reluGoal w m ((cols ho).idx x) := by
  funext x
  obtain ⟨r, c, rfl⟩ : ∃ (r : Fin 256) (c : Fin 512), x = ix2 r c := ⟨x 0, x 1, eq_ix2 x⟩
  rw [cols_idx]
  unfold reluVal
  rw [maximumf_apply, addf_apply]
  simp only [matmul]
  rw [dot_wts_eq, Ideal.matmul_plain_apply, View.ld_apply, cols_idx, constant_apply, Ideal.ofBits_zero_f32, zero_add, broadcast_apply]
  unfold reluGoal
  refine congrArg₂ (fun z y : EReal => max (_ + z) y) (Finset.sum_congr rfl fun k _ => congrArg (fun z : EReal => _ * z) ?_) Ideal.ofBits_zero_f32
  rw [truncf_apply, View.ld_apply, cols_idx]
  rfl

/-- A scaled chunk is the whole-array function there. -/
theorem actVal_eq {o : ℕ} (ho : Chunk o) (w : FVec Ideal S256x256 .bf16) (dvg : FVec Ideal S1x2048 .f32) (m : Vec Ideal S256x2048 .f32) :
    actVal ho w dvg (View.ld m (cols ho)) = fun x => actGoal w dvg m ((cols ho).idx x) := by
  funext x
  obtain ⟨r, c, rfl⟩ : ∃ (r : Fin 256) (c : Fin 512), x = ix2 r c := ⟨x 0, x 1, eq_ix2 x⟩
  unfold actVal
  rw [shapeCast_self, truncf_apply, mulf_apply, broadcastTo_1b_ab_apply, slice2_axis1_eq, reluVal_eq]
  show reluGoal w m ((cols ho).idx (ix2 r c)) * _ = _
  rw [cols_idx]
  rfl

/-- A chunk of the last layer is the whole-array function there. -/
theorem lastVal_eq {o : ℕ} (ho : Chunk o) (w : FVec Ideal S256x256 .bf16) (m : Vec Ideal S256x2048 .f32) :
    lastVal w (View.ld m (cols ho)) = fun x => reluGoal w m ((cols ho).idx x) := by
  unfold lastVal
  rw [shapeCast_self, reluVal_eq]

/-! ## The diagonal -/

/-- The adjacency with ones put on the first `n` places of its diagonal. -/
def diagTo (n : ℕ) (A : Vec Ideal S2048x2048 .bf16) : Vec Ideal S2048x2048 .bf16 :=
  fun i => if (i 0).val = (i 1).val ∧ (i 0).val < n then (1 : EReal) else A i

/-- One block of the diagonal. -/
abbrev diag {o : ℕ} (ho : Block o) : Rect S2048x2048 := Rect.unit (s := S2048x2048) ![o, o] S256x256.size ho.adj

/-- Where an index of a diagonal block lies in the whole array. -/
theorem diag_idx {o : ℕ} (ho : Block o) (r c : Fin 256) :
    (diag ho).idx (ix2 r c) = ix2 (⟨o + r.val, Nat.lt_of_lt_of_le (Nat.add_lt_add_left r.isLt o) (ho.adj 0)⟩ : Fin 2048)
      (⟨o + c.val, Nat.lt_of_lt_of_le (Nat.add_lt_add_left c.isLt o) (ho.adj 1)⟩ : Fin 2048) := by
  funext a; refine Fin.ext ?_
  rw [Rect.idx_unit_val]
  match a with
  | ⟨0, _⟩ => rfl
  | ⟨1, _⟩ => rfl

/-- The word of the number one. -/
theorem one_word : Scalar.ofBits (F := Ideal) .f32 0x3F800000#32 = (1 : EReal) := Ideal.ofBits_one_f32

/-- A fixed block read at an index. -/
theorem fixedBlock_apply (v : Vec Ideal S256x256 .bf16) (r c : Fin 256) :
    fixedBlock v (ix2 r c) = if r.val = c.val then (1 : EReal) else v (ix2 r c) := by
  unfold fixedBlock
  rw [select_apply, broadcast_apply, one_word, extf_apply]
  show Scalar.select (IntOp.cmpi .eq (iota .tc S256x256 32 [0] iota_S256x256_d0_w32 (ix2 r c)) (iota .tc S256x256 32 [1] iota_S256x256_d1_w32 (ix2 r c))) _ _ = _
  rw [iota_single_apply, iota_single_apply]
  show Scalar.select (IntOp.cmpi .eq (BitVec.ofNat 32 r.val) (BitVec.ofNat 32 c.val)) _ _ = _
  have hr := r.isLt
  have hc := c.isLt
  by_cases h : r.val = c.val
  · rw [(WordCmp.cmpi_eq_ofNat_eq_one_iff (by omega) (by omega)).mpr h, if_pos h, select_one]
  · rw [(WordCmp.cmpi_eq_ofNat_eq_zero_iff (by omega) (by omega)).mpr h, if_neg h, select_zero]

/-- The block as stored, from blocks that are not fixed yet, is the fixed adjacency there. -/
theorem storedBlock_eq {o : ℕ} (ho : Block o) (A : Vec Ideal S2048x2048 .bf16) :
    storedBlock (View.ld (diagTo o A) (diag ho)) = fun x => diagTo (o + 256) A ((diag ho).idx x) := by
  funext x
  obtain ⟨r, c, rfl⟩ : ∃ (r c : Fin 256), x = ix2 r c := ⟨x 0, x 1, eq_ix2 x⟩
  unfold storedBlock
  rw [shapeCast_self, truncf_apply, fixedBlock_apply, View.ld_apply, diag_idx]
  unfold diagTo
  have hr := r.isLt
  by_cases h : r.val = c.val
  · rw [if_pos h, if_pos ⟨by show o + r.val = o + c.val; omega, by show o + r.val < o + 256; omega⟩]
  · rw [if_neg h, if_neg (fun hh => h (by have : o + r.val = o + c.val := hh.1; omega)), if_neg (fun hh => h (by have : o + r.val = o + c.val := hh.1; omega))]

/-- A block read before it is fixed is the block of the adjacency as it was. -/
theorem ld_diagTo {o : ℕ} (ho : Block o) (A : Vec Ideal S2048x2048 .bf16) :
    View.ld (diagTo o A) (diag ho) = View.ld A (diag ho) := by
  funext x
  obtain ⟨r, c, rfl⟩ : ∃ (r c : Fin 256), x = ix2 r c := ⟨x 0, x 1, eq_ix2 x⟩
  rw [View.ld_apply, View.ld_apply, diag_idx]
  exact if_neg fun hh => absurd (show o + r.val < o from hh.2) (by omega)

/-- Storing a fixed block extends the fixed part of the diagonal. -/
theorem overlay_diag {o : ℕ} (ho : Block o) (A : Vec Ideal S2048x2048 .bf16) :
    (diag ho).overlay (diagTo o A) (storedBlock (View.ld (diagTo o A) (diag ho))) = diagTo (o + 256) A := by
  rw [storedBlock_eq]
  funext y
  by_cases hy : y ∈ (diag ho).set
  · exact overlay_ld_of_mem _ _ _ _ hy
  refine overlay_ld_of_eq _ _ _ _ ?_
  have key : ¬ ((y 0).val = (y 1).val ∧ o ≤ (y 0).val ∧ (y 0).val < o + 256) := fun h => hy <| Rect.mem_set_unit.mpr fun a => by
    match a with
    | ⟨0, _⟩ => exact ⟨h.2.1, h.2.2⟩
    | ⟨1, _⟩ => exact ⟨h.1 ▸ h.2.1, h.1 ▸ h.2.2⟩
  unfold diagTo
  refine if_congr ⟨fun h => ⟨h.1, by omega⟩, fun h => ⟨h.1, ?_⟩⟩ rfl rfl
  by_contra hh
  exact key ⟨h.1, by omega, h.2⟩

/-- No place fixed: the adjacency itself. -/
theorem diagTo_zero (A : Vec Ideal S2048x2048 .bf16) : diagTo 0 A = A := by
  funext i; exact if_neg fun h => absurd h.2 (Nat.not_lt_zero _)

end Cert.KernelIdeal.Hand

end
-- ==== Proof.Triples.lean ====
/- What the programs of the last grid step do to known contents, over the extended reals. -/
module

public import proofs.«01_k».proof.Proof.Ops
public import proofs.«01_k».proof.Proof.Goals

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hand Cert.KernelIdeal.Gen

local notation "𝕄" => MT nD τ sig Unit (Elt Ideal) ℕ (UR sig nD τ) ℕ

variable (d : Dev nD)

/-- Fixing a diagonal block extends the fixed part of the diagonal and returns the block as it was. -/
theorem fixBlock_spec {o : ℕ} (ho : Block o) (adj : Memref sig .tc .vmem S2048x2048 .bf16) (hadj : adj.IsWhole) (A : Vec Ideal S2048x2048 .bf16)
    (Q : Vec Ideal S256x256 .bf16 → sProp 𝕄) :
    owns (d : Thread nD τ) adj fullShare (diagTo o A) ⊢ iprop((owns (d : Thread nD τ) adj fullShare (diagTo (o + 256) A) -∗ Q (View.ld A (diag ho)))
      -∗ wp (M := 𝕄) frame (wpE (defs₀ (F := Ideal)) Variants.none d none) Set.univ (fixBlock ho adj hadj) Q) := by
  unfold fixBlock
  iintro HA HQ
  iapply (wp_load_owns Variants.none (d : Thread nD τ) none Set.univ) $$ HA
  iintro HA
  iapply (wp_load_owns Variants.none (d : Thread nD τ) none Set.univ) $$ HA
  iintro HA
  iapply (wp_store_owns Variants.none (d : Thread nD τ) none Set.univ) $$ HA
  iintro HA
  rw [wp_pure]
  imodintro
  rw [overlay_diag ho, ld_diagTo ho]
  iapply HQ
  iexact HA

/-- A chunk is propagated into `mix`. -/
theorem mixChunk_spec {o : ℕ} (ho : Chunk o) (adj : Memref sig .tc .vmem S2048x2048 .bf16) (res mix : Memref sig .tc .vmem S256x2048 .f32)
    (dv : FVec Ideal S1x2048 .f32) (us : Vec Ideal S256x2048 .bf16) (A : Vec Ideal S2048x2048 .bf16) (h X : Vec Ideal S256x2048 .f32)
    (Q : PUnit → sProp 𝕄) :
    iprop(owns (d : Thread nD τ) adj fullShare A ∗ owns (d : Thread nD τ) res fullShare h ∗ owns (d : Thread nD τ) mix fullShare X)
      ⊢ iprop((owns (d : Thread nD τ) adj fullShare A ∗ owns (d : Thread nD τ) res fullShare h
          ∗ owns (d : Thread nD τ) mix fullShare ((cols ho).overlay X (fun x => mixGoal dv us A h ((cols ho).idx x))) -∗ Q ⟨⟩)
      -∗ wp (M := 𝕄) frame (wpE (defs₀ (F := Ideal)) Variants.none d none) Set.univ (mixChunk ho adj res mix dv us) Q) := by
  unfold mixChunk
  iintro ⟨HA, HH, HM⟩ HQ
  iapply (wp_load_owns Variants.none (d : Thread nD τ) none Set.univ) $$ HA
  iintro HA
  iapply (wp_load_owns Variants.none (d : Thread nD τ) none Set.univ) $$ HH
  iintro HH
  iapply (wp_load_owns Variants.none (d : Thread nD τ) none Set.univ) $$ HM
  iintro HM
  rw [mixVal_eq]
  iapply (wp_store_owns Variants.none (d : Thread nD τ) none Set.univ (k := pure)) $$ HM
  iintro HM
  rw [wp_pure]
  imodintro
  iapply HQ
  isplitl [HA]; · iexact HA
  isplitl [HH]; · iexact HH
  iexact HM

/-- A chunk of `mix` goes through the weights and the rectifier into `dst`, scaled. -/
theorem actChunk_spec {o : ℕ} (ho : Chunk o) (mix : Memref sig .tc .vmem S256x2048 .f32) (dst : Memref sig .tc .vmem S256x2048 .bf16) (hdst : dst.IsWhole)
    (w : FVec Ideal S256x256 .bf16) (dvg : FVec Ideal S1x2048 .f32)
    (M : Vec Ideal S256x2048 .f32) (X : Vec Ideal S256x2048 .bf16) (Q : PUnit → sProp 𝕄) :
    iprop(owns (d : Thread nD τ) mix fullShare M ∗ owns (d : Thread nD τ) dst fullShare X)
      ⊢ iprop((owns (d : Thread nD τ) mix fullShare M ∗ owns (d : Thread nD τ) dst fullShare ((cols ho).overlay X (fun x => actGoal w dvg M ((cols ho).idx x))) -∗ Q ⟨⟩)
      -∗ wp (M := 𝕄) frame (wpE (defs₀ (F := Ideal)) Variants.none d none) Set.univ (actChunk ho mix dst hdst w dvg) Q) := by
  unfold actChunk
  iintro ⟨HM, HD⟩ HQ
  iapply (wp_load_owns Variants.none (d : Thread nD τ) none Set.univ) $$ HM
  iintro HM
  iapply (wp_load_owns Variants.none (d : Thread nD τ) none Set.univ) $$ HD
  iintro HD
  rw [actVal_eq]
  iapply (wp_store_owns Variants.none (d : Thread nD τ) none Set.univ (k := pure)) $$ HD
  iintro HD
  rw [wp_pure]
  imodintro
  iapply HQ
  isplitl [HM]; · iexact HM
  iexact HD

/-- A chunk of `mix` goes through the weights and the rectifier into `dst`. -/
theorem lastChunk_spec {o : ℕ} (ho : Chunk o) (mix : Memref sig .tc .vmem S256x2048 .f32) (dst : Memref sig .tc .vmem S256x2048 .f32)
    (w : FVec Ideal S256x256 .bf16)
    (M : Vec Ideal S256x2048 .f32) (X : Vec Ideal S256x2048 .f32) (Q : PUnit → sProp 𝕄) :
    iprop(owns (d : Thread nD τ) mix fullShare M ∗ owns (d : Thread nD τ) dst fullShare X)
      ⊢ iprop((owns (d : Thread nD τ) mix fullShare M ∗ owns (d : Thread nD τ) dst fullShare ((cols ho).overlay X (fun x => reluGoal w M ((cols ho).idx x))) -∗ Q ⟨⟩)
      -∗ wp (M := 𝕄) frame (wpE (defs₀ (F := Ideal)) Variants.none d none) Set.univ (lastChunk ho mix dst w) Q) := by
  unfold lastChunk
  iintro ⟨HM, HD⟩ HQ
  iapply (wp_load_owns Variants.none (d : Thread nD τ) none Set.univ) $$ HM
  iintro HM
  iapply (wp_load_owns Variants.none (d : Thread nD τ) none Set.univ) $$ HD
  iintro HD
  rw [lastVal_eq]
  iapply (wp_store_owns Variants.none (d : Thread nD τ) none Set.univ (k := pure)) $$ HD
  iintro HD
  rw [wp_pure]
  imodintro
  iapply HQ
  isplitl [HM]; · iexact HM
  iexact HD

/-- All four chunks are propagated into `mix`. -/
theorem mixAll_spec (adj : Memref sig .tc .vmem S2048x2048 .bf16) (res mix : Memref sig .tc .vmem S256x2048 .f32)
    (dv : FVec Ideal S1x2048 .f32) (us : Vec Ideal S256x2048 .bf16) (A : Vec Ideal S2048x2048 .bf16) (h X : Vec Ideal S256x2048 .f32)
    (Q : PUnit → sProp 𝕄) :
    iprop(owns (d : Thread nD τ) adj fullShare A ∗ owns (d : Thread nD τ) res fullShare h ∗ owns (d : Thread nD τ) mix fullShare X)
      ⊢ iprop((owns (d : Thread nD τ) adj fullShare A ∗ owns (d : Thread nD τ) res fullShare h ∗ owns (d : Thread nD τ) mix fullShare (mixGoal dv us A h) -∗ Q ⟨⟩)
      -∗ wp (M := 𝕄) frame (wpE (defs₀ (F := Ideal)) Variants.none d none) Set.univ (mixAll adj res mix dv us) Q) := by
  unfold mixAll
  iintro H HQ
  rw [wp_bind]
  iapply (mixChunk_spec d chunk0 adj res mix dv us A h) $$ H
  iintro H
  rw [wp_bind]
  iapply (mixChunk_spec d chunk1 adj res mix dv us A h) $$ H
  iintro H
  rw [wp_bind]
  iapply (mixChunk_spec d chunk2 adj res mix dv us A h) $$ H
  iintro H
  iapply (mixChunk_spec d chunk3 adj res mix dv us A h) $$ H
  iintro H
  rw [four_chunks]
  iapply HQ
  iexact H

/-- The weights of layer `l`, from the eight matrices. -/
def layerWeights {l : ℕ} (hl : RowAt l) (ratio : EReal) (W : Vec Ideal S8x256x256 .f32) : FVec Ideal S256x256 .bf16 :=
  weightOf (F := Ideal) ratio (View.ld W (Rect.unit (s := S8x256x256) ![l, 0, 0] S1x256x256.size hl))

/-- One layer's scaled features from the previous one's. -/
def layerGoal {l : ℕ} (hl : RowAt l) (ratio gain : EReal) (d dv : FVec Ideal S1x2048 .f32) (W : Vec Ideal S8x256x256 .f32) (A : Vec Ideal S2048x2048 .bf16)
    (h : Vec Ideal S256x2048 .f32) (us : Vec Ideal S256x2048 .bf16) : Vec Ideal S256x2048 .bf16 :=
  actGoal (layerWeights hl ratio W) (rowTimes (F := Ideal) gain d) (mixGoal dv us A h)

/-- The last layer's features from the previous one's scaled ones. -/
def lastGoal {l : ℕ} (hl : RowAt l) (ratio : EReal) (dv : FVec Ideal S1x2048 .f32) (W : Vec Ideal S8x256x256 .f32) (A : Vec Ideal S2048x2048 .bf16)
    (h : Vec Ideal S256x2048 .f32) (us : Vec Ideal S256x2048 .bf16) : Vec Ideal S256x2048 .f32 :=
  reluGoal (layerWeights hl ratio W) (mixGoal dv us A h)

/-- One of the first seven layers. -/
theorem layer_spec {l : ℕ} (hl : RowAt l) (ratio gain : EReal) (wts : Memref sig .tc .vmem S8x256x256 .f32) (adj : Memref sig .tc .vmem S2048x2048 .bf16)
    (src : Memref sig .tc .vmem S256x2048 .bf16) (dst : Memref sig .tc .vmem S256x2048 .bf16) (hdst : dst.IsWhole) (res mix : Memref sig .tc .vmem S256x2048 .f32)
    (dd dv : FVec Ideal S1x2048 .f32) (W : Vec Ideal S8x256x256 .f32) (A : Vec Ideal S2048x2048 .bf16) (us : Vec Ideal S256x2048 .bf16) (h X : Vec Ideal S256x2048 .f32)
    (Y : Vec Ideal S256x2048 .bf16) (q : PosShare TreeShare) (Q : PUnit → sProp 𝕄) :
    iprop(owns (d : Thread nD τ) wts q W ∗ owns (d : Thread nD τ) adj fullShare A ∗ owns (d : Thread nD τ) src fullShare us ∗ owns (d : Thread nD τ) dst fullShare Y ∗ owns (d : Thread nD τ) res fullShare h ∗ owns (d : Thread nD τ) mix fullShare X)
      ⊢ iprop((owns (d : Thread nD τ) wts q W ∗ owns (d : Thread nD τ) adj fullShare A ∗ owns (d : Thread nD τ) src fullShare us ∗ owns (d : Thread nD τ) dst fullShare (layerGoal hl ratio gain dd dv W A h us) ∗ owns (d : Thread nD τ) res fullShare h ∗ (∃ X, owns (d : Thread nD τ) mix fullShare X) -∗ Q ⟨⟩)
      -∗ wp (M := 𝕄) frame (wpE (defs₀ (F := Ideal)) Variants.none d none) Set.univ (layer (F := Ideal) hl ratio gain wts adj src dst hdst res mix dd dv) Q) := by
  unfold layer
  iintro ⟨HW, HA, HS, HD, HH, HM⟩ HQ
  iapply (wp_load_owns Variants.none (d : Thread nD τ) none Set.univ) $$ HW
  iintro HW
  iapply (wp_load_owns Variants.none (d : Thread nD τ) none Set.univ) $$ HS
  iintro HS
  rw [ld_all]
  rw [wp_bind]
  iapply (mixAll_spec d adj res mix dv us A h) $$ [HA HH HM]
  · isplitl [HA]; · iexact HA
    isplitl [HH]; · iexact HH
    iexact HM
  iintro ⟨HA, HH, HM⟩
  rw [wp_bind]
  iapply (actChunk_spec d chunk0 mix dst hdst _ _ (mixGoal dv us A h)) $$ [HM HD]
  · isplitl [HM]; · iexact HM
    iexact HD
  iintro ⟨HM, HD⟩
  rw [wp_bind]
  iapply (actChunk_spec d chunk1 mix dst hdst _ _ (mixGoal dv us A h)) $$ [HM HD]
  · isplitl [HM]; · iexact HM
    iexact HD
  iintro ⟨HM, HD⟩
  rw [wp_bind]
  iapply (actChunk_spec d chunk2 mix dst hdst _ _ (mixGoal dv us A h)) $$ [HM HD]
  · isplitl [HM]; · iexact HM
    iexact HD
  iintro ⟨HM, HD⟩
  iapply (actChunk_spec d chunk3 mix dst hdst _ _ (mixGoal dv us A h)) $$ [HM HD]
  · isplitl [HM]; · iexact HM
    iexact HD
  iintro ⟨HM, HD⟩
  rw [four_chunks]
  iapply HQ
  isplitl [HW]; · iexact HW
  isplitl [HA]; · iexact HA
  isplitl [HS]; · iexact HS
  isplitl [HD]; · iexact HD
  isplitl [HH]; · iexact HH
  iexists _; iexact HM

/-- The last layer. -/
theorem lastLayer_spec {l : ℕ} (hl : RowAt l) (ratio : EReal) (wts : Memref sig .tc .vmem S8x256x256 .f32) (adj : Memref sig .tc .vmem S2048x2048 .bf16)
    (src : Memref sig .tc .vmem S256x2048 .bf16) (dst : Memref sig .tc .vmem S256x2048 .f32) (res mix : Memref sig .tc .vmem S256x2048 .f32)
    (dv : FVec Ideal S1x2048 .f32) (W : Vec Ideal S8x256x256 .f32) (A : Vec Ideal S2048x2048 .bf16) (us : Vec Ideal S256x2048 .bf16) (h X : Vec Ideal S256x2048 .f32)
    (Y : Vec Ideal S256x2048 .f32) (q : PosShare TreeShare) (Q : PUnit → sProp 𝕄) :
    iprop(owns (d : Thread nD τ) wts q W ∗ owns (d : Thread nD τ) adj fullShare A ∗ owns (d : Thread nD τ) src fullShare us ∗ owns (d : Thread nD τ) dst fullShare Y ∗ owns (d : Thread nD τ) res fullShare h ∗ owns (d : Thread nD τ) mix fullShare X)
      ⊢ iprop((owns (d : Thread nD τ) wts q W ∗ owns (d : Thread nD τ) adj fullShare A ∗ owns (d : Thread nD τ) src fullShare us ∗ owns (d : Thread nD τ) dst fullShare (lastGoal hl ratio dv W A h us) ∗ owns (d : Thread nD τ) res fullShare h ∗ (∃ X, owns (d : Thread nD τ) mix fullShare X) -∗ Q ⟨⟩)
      -∗ wp (M := 𝕄) frame (wpE (defs₀ (F := Ideal)) Variants.none d none) Set.univ (lastLayer (F := Ideal) hl ratio wts adj src res mix dst dv) Q) := by
  unfold lastLayer
  iintro ⟨HW, HA, HS, HD, HH, HM⟩ HQ
  iapply (wp_load_owns Variants.none (d : Thread nD τ) none Set.univ) $$ HW
  iintro HW
  iapply (wp_load_owns Variants.none (d : Thread nD τ) none Set.univ) $$ HS
  iintro HS
  rw [ld_all]
  rw [wp_bind]
  iapply (mixAll_spec d adj res mix dv us A h) $$ [HA HH HM]
  · isplitl [HA]; · iexact HA
    isplitl [HH]; · iexact HH
    iexact HM
  iintro ⟨HA, HH, HM⟩
  rw [wp_bind]
  iapply (lastChunk_spec d chunk0 mix dst _ (mixGoal dv us A h)) $$ [HM HD]
  · isplitl [HM]; · iexact HM
    iexact HD
  iintro ⟨HM, HD⟩
  rw [wp_bind]
  iapply (lastChunk_spec d chunk1 mix dst _ (mixGoal dv us A h)) $$ [HM HD]
  · isplitl [HM]; · iexact HM
    iexact HD
  iintro ⟨HM, HD⟩
  rw [wp_bind]
  iapply (lastChunk_spec d chunk2 mix dst _ (mixGoal dv us A h)) $$ [HM HD]
  · isplitl [HM]; · iexact HM
    iexact HD
  iintro ⟨HM, HD⟩
  iapply (lastChunk_spec d chunk3 mix dst _ (mixGoal dv us A h)) $$ [HM HD]
  · isplitl [HM]; · iexact HM
    iexact HD
  iintro ⟨HM, HD⟩
  rw [four_chunks]
  iapply HQ
  isplitl [HW]; · iexact HW
  isplitl [HA]; · iexact HA
  isplitl [HS]; · iexact HS
  isplitl [HD]; · iexact HD
  isplitl [HH]; · iexact HH
  iexists _; iexact HM

/-- The normalisation, from the adjacency before its diagonal is fixed and its column sums. -/
def dinvGoal (A : Vec Ideal S2048x2048 .bf16) (deg : Vec Ideal S1x2048 .f32) : FVec Ideal S1x2048 .f32 :=
  dinvOf (F := Ideal) (View.ld A (diag block0)) (View.ld A (diag block1)) (View.ld A (diag block2)) (View.ld A (diag block3)) (View.ld A (diag block4)) (View.ld A (diag block5)) (View.ld A (diag block6)) (View.ld A (diag block7)) deg

/-- The diagonal is fixed, the normalisation returned, and the first layer's scaled features stored. -/
theorem prepare_spec (adj : Memref sig .tc .vmem S2048x2048 .bf16) (hadj : adj.IsWhole) (deg : Memref sig .tc .vmem S1x2048 .f32)
    (ht : Memref sig .tc .vmem S256x2048 .f32) (src : Memref sig .tc .vmem S256x2048 .bf16) (hsrc : src.IsWhole)
    (A : Vec Ideal S2048x2048 .bf16) (g : Vec Ideal S1x2048 .f32) (h : Vec Ideal S256x2048 .f32) (Y : Vec Ideal S256x2048 .bf16)
    (Q : FVec Ideal S1x2048 .f32 → sProp 𝕄) :
    iprop(owns (d : Thread nD τ) adj fullShare A ∗ owns (d : Thread nD τ) deg fullShare g ∗ owns (d : Thread nD τ) ht fullShare h ∗ owns (d : Thread nD τ) src fullShare Y)
      ⊢ iprop((owns (d : Thread nD τ) adj fullShare (diagTo 2048 A) ∗ owns (d : Thread nD τ) deg fullShare g ∗ owns (d : Thread nD τ) ht fullShare h ∗ owns (d : Thread nD τ) src fullShare (firstScaled (F := Ideal) (dinvGoal A g) h) -∗ Q (dinvGoal A g))
      -∗ wp (M := 𝕄) frame (wpE (defs₀ (F := Ideal)) Variants.none d none) Set.univ (prepare (F := Ideal) adj hadj deg ht src hsrc) Q) := by
  unfold prepare dinvGoal
  rw [show owns (d : Thread nD τ) adj fullShare A = owns (d : Thread nD τ) adj fullShare (diagTo 0 A) from by rw [diagTo_zero]]
  iintro ⟨HA, HG, HH, HS⟩ HQ
  rw [wp_bind]
  iapply (fixBlock_spec d block0 adj hadj A) $$ HA
  iintro HA
  rw [wp_bind]
  iapply (fixBlock_spec d block1 adj hadj A) $$ HA
  iintro HA
  rw [wp_bind]
  iapply (fixBlock_spec d block2 adj hadj A) $$ HA
  iintro HA
  rw [wp_bind]
  iapply (fixBlock_spec d block3 adj hadj A) $$ HA
  iintro HA
  rw [wp_bind]
  iapply (fixBlock_spec d block4 adj hadj A) $$ HA
  iintro HA
  rw [wp_bind]
  iapply (fixBlock_spec d block5 adj hadj A) $$ HA
  iintro HA
  rw [wp_bind]
  iapply (fixBlock_spec d block6 adj hadj A) $$ HA
  iintro HA
  rw [wp_bind]
  iapply (fixBlock_spec d block7 adj hadj A) $$ HA
  iintro HA
  iapply (wp_load_owns Variants.none (d : Thread nD τ) none Set.univ) $$ HG
  iintro HG
  iapply (wp_load_owns Variants.none (d : Thread nD τ) none Set.univ) $$ HH
  iintro HH
  iapply (wp_load_owns Variants.none (d : Thread nD τ) none Set.univ) $$ HS
  iintro HS
  iapply (wp_store_owns Variants.none (d : Thread nD τ) none Set.univ) $$ HS
  iintro HS
  rw [wp_pure]
  imodintro
  rw [overlay_all, ld_all, ld_all]
  iapply HQ
  isplitl [HA]; · iexact HA
  isplitl [HG]; · iexact HG
  isplitl [HH]; · iexact HH
  iexact HS

/-- The output product of what is loaded. -/
theorem finish_spec (w1 : Memref sig .tc .vmem S256x256 .f32) (b1 : Memref sig .tc .vmem S1x256 .f32) (ht : Memref sig .tc .vmem S256x2048 .f32)
    (W : Vec Ideal S256x256 .f32) (b : Vec Ideal S1x256 .f32) (h : Vec Ideal S256x2048 .f32) (Q : FVec Ideal S2048x256 .f32 → sProp 𝕄) :
    iprop(owns (d : Thread nD τ) w1 fullShare W ∗ owns (d : Thread nD τ) b1 fullShare b ∗ owns (d : Thread nD τ) ht fullShare h)
      ⊢ iprop((owns (d : Thread nD τ) w1 fullShare W ∗ owns (d : Thread nD τ) b1 fullShare b ∗ owns (d : Thread nD τ) ht fullShare h -∗ Q (k0_pay133 (F := Ideal) W h b))
      -∗ wp (M := 𝕄) frame (wpE (defs₀ (F := Ideal)) Variants.none d none) Set.univ (finish (F := Ideal) w1 b1 ht) Q) := by
  unfold finish
  iintro ⟨HW, HB, HH⟩ HQ
  iapply (wp_load_owns Variants.none (d : Thread nD τ) none Set.univ) $$ HW
  iintro HW
  iapply (wp_load_owns Variants.none (d : Thread nD τ) none Set.univ) $$ HH
  iintro HH
  iapply (wp_load_owns Variants.none (d : Thread nD τ) none Set.univ) $$ HB
  iintro HB
  rw [wp_pure]
  imodintro
  rw [ld_all, ld_all, ld_all]
  iapply HQ
  isplitl [HW]; · iexact HW
  isplitl [HB]; · iexact HB
  iexact HH

/-- The scaled features after the first layers: `usGoal n` is what layer `n` reads. -/
def usGoal (dd : FVec Ideal S1x2048 .f32) (W : Vec Ideal S8x256x256 .f32) (A : Vec Ideal S2048x2048 .bf16) (h0a h : Vec Ideal S256x2048 .f32) :
    ℕ → Vec Ideal S256x2048 .bf16
  | 0 => firstScaled (F := Ideal) dd h
  | 1 => layerGoal inb_S8x256x256_S1x256x256_0_0_0 (Named.named (F := Ideal) κ "ratio0" (φ := .f32) 0x3F2E96B4#32) (Scalar.ofBits (F := Ideal) .f32 0x3F183370#32) dd (rowTimes (F := Ideal) nine dd) W A h0a (usGoal dd W A h0a h 0)
  | 2 => layerGoal inb_S8x256x256_S1x256x256_1_0_0 (Named.named (F := Ideal) κ "ratio1" (φ := .f32) 0x3E931101#32) (Scalar.ofBits (F := Ideal) .f32 0x3F46E010#32) dd (rowTimes (F := Ideal) nine dd) W A h0a (usGoal dd W A h0a h 1)
  | 3 => layerGoal inb_S8x256x256_S1x256x256_2_0_0 (Named.named (F := Ideal) κ "ratio2" (φ := .f32) 0x3E3A9E15#32) (Scalar.ofBits (F := Ideal) .f32 0x3F588995#32) dd (rowTimes (F := Ideal) nine dd) W A h0a (usGoal dd W A h0a h 2)
  | 4 => layerGoal inb_S8x256x256_S1x256x256_3_0_0 (Named.named (F := Ideal) κ "ratio3" (φ := .f32) 0x3E08B653#32) (Scalar.ofBits (F := Ideal) .f32 0x3F61D8F9#32) dd (rowTimes (F := Ideal) nine dd) W A h0a (usGoal dd W A h0a h 3)
  | 5 => layerGoal inb_S8x256x256_S1x256x256_4_0_0 (Named.named (F := Ideal) κ "ratio4" (φ := .f32) 0x3DD7C262#32) (Scalar.ofBits (F := Ideal) .f32 0x3F6799C1#32) dd (rowTimes (F := Ideal) nine dd) W A h0a (usGoal dd W A h0a h 4)
  | 6 => layerGoal inb_S8x256x256_S1x256x256_5_0_0 (Named.named (F := Ideal) κ "ratio5" (φ := .f32) 0x3DB230B7#32) (Scalar.ofBits (F := Ideal) .f32 0x3F6B8252#32) dd (rowTimes (F := Ideal) nine dd) W A h0a (usGoal dd W A h0a h 5)
  | 7 => layerGoal inb_S8x256x256_S1x256x256_6_0_0 (Named.named (F := Ideal) κ "ratio6" (φ := .f32) 0x3D97C4B1#32) (Scalar.ofBits (F := Ideal) .f32 0x3F6E567C#32) dd (rowTimes (F := Ideal) nine dd) W A h0a (usGoal dd W A h0a h 6)
  | _ => fun _ => 0

/-- The features after the last layer, without the last gain. -/
def featGoal (dd : FVec Ideal S1x2048 .f32) (W : Vec Ideal S8x256x256 .f32) (A : Vec Ideal S2048x2048 .bf16) (h0a h : Vec Ideal S256x2048 .f32) :
    Vec Ideal S256x2048 .f32 :=
  lastGoal inb_S8x256x256_S1x256x256_7_0_0 (Named.named (F := Ideal) κ "ratio7" (φ := .f32) 0x3D842C0F#32) (rowTimes (F := Ideal) nine dd) W A h0a (usGoal dd W A h0a h 7)

/-- The output of the last grid step: from the weights, the adjacency before its diagonal is fixed, its column sums, the residual and the
    first features. -/
def stepGoal (W1 : Vec Ideal S256x256 .f32) (b1 : Vec Ideal S1x256 .f32) (W : Vec Ideal S8x256x256 .f32) (A : Vec Ideal S2048x2048 .bf16)
    (h0a h : Vec Ideal S256x2048 .f32) (g : Vec Ideal S1x2048 .f32) : FVec Ideal S2048x256 .f32 :=
  k0_pay133 (F := Ideal) W1 (featGoal (dinvGoal A g) W (diagTo 2048 A) h0a h) b1

/-- The last grid step computes its output from known contents and gives everything back. -/
theorem lastStep_spec (w1 : Memref sig .tc .vmem S256x256 .f32) (b1 : Memref sig .tc .vmem S1x256 .f32) (wts : Memref sig .tc .vmem S8x256x256 .f32)
    (adj : Memref sig .tc .vmem S2048x2048 .bf16) (hadj : adj.IsWhole) (ua : Memref sig .tc .vmem S256x2048 .bf16) (hua : ua.IsWhole)
    (ub : Memref sig .tc .vmem S256x2048 .bf16) (hub : ub.IsWhole) (res ht mix : Memref sig .tc .vmem S256x2048 .f32)
    (deg : Memref sig .tc .vmem S1x2048 .f32) (W1 : Vec Ideal S256x256 .f32) (B1 : Vec Ideal S1x256 .f32) (W : Vec Ideal S8x256x256 .f32)
    (A : Vec Ideal S2048x2048 .bf16) (Ya Yb : Vec Ideal S256x2048 .bf16) (h0a h X : Vec Ideal S256x2048 .f32) (g : Vec Ideal S1x2048 .f32)
    (Q : FVec Ideal S2048x256 .f32 → sProp 𝕄) :
    iprop(owns (d : Thread nD τ) w1 fullShare W1 ∗ owns (d : Thread nD τ) b1 fullShare B1 ∗ owns (d : Thread nD τ) wts fullShare W ∗ owns (d : Thread nD τ) adj fullShare A ∗ owns (d : Thread nD τ) ua fullShare Ya ∗ owns (d : Thread nD τ) ub fullShare Yb ∗ owns (d : Thread nD τ) res fullShare h0a ∗ owns (d : Thread nD τ) ht fullShare h ∗ owns (d : Thread nD τ) mix fullShare X ∗ owns (d : Thread nD τ) deg fullShare g)
      ⊢ iprop((owns (d : Thread nD τ) w1 fullShare W1 ∗ owns (d : Thread nD τ) b1 fullShare B1 ∗ owns (d : Thread nD τ) wts fullShare W ∗ (∃ X, owns (d : Thread nD τ) adj fullShare X) ∗ (∃ X, owns (d : Thread nD τ) ua fullShare X) ∗ (∃ X, owns (d : Thread nD τ) ub fullShare X)
          ∗ (∃ X, owns (d : Thread nD τ) res fullShare X) ∗ (∃ X, owns (d : Thread nD τ) ht fullShare X) ∗ (∃ X, owns (d : Thread nD τ) mix fullShare X) ∗ (∃ X, owns (d : Thread nD τ) deg fullShare X) -∗ Q (stepGoal W1 B1 W A h0a h g))
      -∗ wp (M := 𝕄) frame (wpE (defs₀ (F := Ideal)) Variants.none d none) Set.univ (lastStep (F := Ideal) w1 b1 wts adj hadj ua hua ub hub res ht mix deg) Q) := by
  unfold lastStep
  simp only [stepGoal, featGoal, usGoal]
  iintro ⟨HW1, HB, HW, HA, HUA, HUB, HR, HT, HM, HG⟩ HQ
  rw [wp_bind]
  iapply (prepare_spec d adj hadj deg ht ua hua A g h Ya) $$ [HA HG HT HUA]
  · isplitl [HA]; · iexact HA
    isplitl [HG]; · iexact HG
    isplitl [HT]; · iexact HT
    iexact HUA
  iintro ⟨HA, HG, HT, HUA⟩
  rw [wp_bind]
  iapply (layer_spec d inb_S8x256x256_S1x256x256_0_0_0 _ _ wts adj ua ub hub res mix _ _ W (diagTo 2048 A) _ h0a) $$ [HW HA HUA HUB HR HM]
  · isplitl [HW]; · iexact HW
    isplitl [HA]; · iexact HA
    isplitl [HUA]; · iexact HUA
    isplitl [HUB]; · iexact HUB
    isplitl [HR]; · iexact HR
    iexact HM
  iintro ⟨HW, HA, HUA, HUB, HR, ⟨%X0, HM⟩⟩
  rw [wp_bind]
  iapply (layer_spec d inb_S8x256x256_S1x256x256_1_0_0 _ _ wts adj ub ua hua res mix _ _ W (diagTo 2048 A) _ h0a) $$ [HW HA HUB HUA HR HM]
  · isplitl [HW]; · iexact HW
    isplitl [HA]; · iexact HA
    isplitl [HUB]; · iexact HUB
    isplitl [HUA]; · iexact HUA
    isplitl [HR]; · iexact HR
    iexact HM
  iintro ⟨HW, HA, HUB, HUA, HR, ⟨%X1, HM⟩⟩
  rw [wp_bind]
  iapply (layer_spec d inb_S8x256x256_S1x256x256_2_0_0 _ _ wts adj ua ub hub res mix _ _ W (diagTo 2048 A) _ h0a) $$ [HW HA HUA HUB HR HM]
  · isplitl [HW]; · iexact HW
    isplitl [HA]; · iexact HA
    isplitl [HUA]; · iexact HUA
    isplitl [HUB]; · iexact HUB
    isplitl [HR]; · iexact HR
    iexact HM
  iintro ⟨HW, HA, HUA, HUB, HR, ⟨%X2, HM⟩⟩
  rw [wp_bind]
  iapply (layer_spec d inb_S8x256x256_S1x256x256_3_0_0 _ _ wts adj ub ua hua res mix _ _ W (diagTo 2048 A) _ h0a) $$ [HW HA HUB HUA HR HM]
  · isplitl [HW]; · iexact HW
    isplitl [HA]; · iexact HA
    isplitl [HUB]; · iexact HUB
    isplitl [HUA]; · iexact HUA
    isplitl [HR]; · iexact HR
    iexact HM
  iintro ⟨HW, HA, HUB, HUA, HR, ⟨%X3, HM⟩⟩
  rw [wp_bind]
  iapply (layer_spec d inb_S8x256x256_S1x256x256_4_0_0 _ _ wts adj ua ub hub res mix _ _ W (diagTo 2048 A) _ h0a) $$ [HW HA HUA HUB HR HM]
  · isplitl [HW]; · iexact HW
    isplitl [HA]; · iexact HA
    isplitl [HUA]; · iexact HUA
    isplitl [HUB]; · iexact HUB
    isplitl [HR]; · iexact HR
    iexact HM
  iintro ⟨HW, HA, HUA, HUB, HR, ⟨%X4, HM⟩⟩
  rw [wp_bind]
  iapply (layer_spec d inb_S8x256x256_S1x256x256_5_0_0 _ _ wts adj ub ua hua res mix _ _ W (diagTo 2048 A) _ h0a) $$ [HW HA HUB HUA HR HM]
  · isplitl [HW]; · iexact HW
    isplitl [HA]; · iexact HA
    isplitl [HUB]; · iexact HUB
    isplitl [HUA]; · iexact HUA
    isplitl [HR]; · iexact HR
    iexact HM
  iintro ⟨HW, HA, HUB, HUA, HR, ⟨%X5, HM⟩⟩
  rw [wp_bind]
  iapply (layer_spec d inb_S8x256x256_S1x256x256_6_0_0 _ _ wts adj ua ub hub res mix _ _ W (diagTo 2048 A) _ h0a) $$ [HW HA HUA HUB HR HM]
  · isplitl [HW]; · iexact HW
    isplitl [HA]; · iexact HA
    isplitl [HUA]; · iexact HUA
    isplitl [HUB]; · iexact HUB
    isplitl [HR]; · iexact HR
    iexact HM
  iintro ⟨HW, HA, HUA, HUB, HR, ⟨%X6, HM⟩⟩
  rw [wp_bind]
  iapply (lastLayer_spec d inb_S8x256x256_S1x256x256_7_0_0 _ wts adj ub ht res mix _ W (diagTo 2048 A) _ h0a) $$ [HW HA HUB HT HR HM]
  · isplitl [HW]; · iexact HW
    isplitl [HA]; · iexact HA
    isplitl [HUB]; · iexact HUB
    isplitl [HT]; · iexact HT
    isplitl [HR]; · iexact HR
    iexact HM
  iintro ⟨HW, HA, HUB, HT, HR, HM⟩
  iapply (finish_spec d w1 b1 ht W1 B1 _) $$ [HW1 HB HT]
  · isplitl [HW1]; · iexact HW1
    isplitl [HB]; · iexact HB
    iexact HT
  iintro ⟨HW1, HB, HT⟩
  iapply HQ
  isplitl [HW1]; · iexact HW1
  isplitl [HB]; · iexact HB
  isplitl [HW]; · iexact HW
  isplitl [HA]; · iexists _; iexact HA
  isplitl [HUA]; · iexists _; iexact HUA
  isplitl [HUB]; · iexists _; iexact HUB
  isplitl [HR]; · iexists _; iexact HR
  isplitl [HT]; · iexists _; iexact HT
  isplitl [HM]; · iexact HM
  iexists _; iexact HG

end Cert.KernelIdeal.Hand

end
-- ==== Proof.Values.lean ====
/- The kernel's values read at an index, over the extended reals: the weights, the normalisation, the first features, the output. -/
module

public import proofs.«01_k».proof.Proof.Triples

@[expose] public section

noncomputable section

namespace Cert.KernelIdeal.Hand

open Idealize.ShloMosaic Idealize.ShloMosaic.ValueIdx
open Cert.KernelIdeal.Gen

/-! ## The layers' values -/

/-- A layer's weights at an index. -/
theorem layerWeights_apply {l : ℕ} (hl : RowAt l) (hl8 : l < 8) (ratio : EReal) (W : Vec Ideal S8x256x256 .f32) (r k : Fin 256) :
    layerWeights hl ratio W (ix2 r k) = ratio * W (ix3 (⟨l, hl8⟩ : Fin 8) k r) := by
  unfold layerWeights weightOf
  rw [truncf_apply, mulf_apply, broadcast_apply, transpose_ix2_apply, shapeCast_1ab_ab_apply]
  refine congrArg (fun z : EReal => ratio * z) (View.ld_unit_apply_of W _ _ _ _ _ fun a => ?_)
  fin_cases a
  · rfl
  · exact (Nat.zero_add _).symm
  · exact (Nat.zero_add _).symm

/-- A constant times a row at an index. -/
theorem rowTimes_apply (g : EReal) (d : FVec Ideal S1x2048 .f32) (i : S1x2048.Idx) : rowTimes (F := Ideal) g d i = g * d i := rfl

/-- The first scaled features at an index. -/
theorem firstScaled_apply (d : FVec Ideal S1x2048 .f32) (h : Vec Ideal S256x2048 .f32) (r : Fin 256) (n : Fin 2048) :
    firstScaled (F := Ideal) d h (ix2 r n) = d (ix2 (0 : Fin 1) n) * h (ix2 r n) := by
  unfold firstScaled
  rw [shapeCast_self, truncf_apply, mulf_apply, broadcastTo_1b_ab_apply]

/-! ## The normalisation -/

/-- What fixing a diagonal block of numbers adds to a column's sum: one less the old entry. -/
theorem blockGain_apply (v : Vec Ideal S256x256 .bf16) (hv : ∀ i, ∃ x : ℝ, v i = (x : EReal)) (c : Fin 256) :
    blockGain (F := Ideal) v (ix2 (0 : Fin 1) c) = (1 : EReal) - v (ix2 c c) := by
  unfold blockGain
  rw [shapeCast_a_1a_apply]
  refine (Ideal.multiReduction_add_single _ _ reduces_S256x256_S256 _ _ _).trans ?_
  have hlift : ∀ k : Fin 256, reduces_S256x256_S256.lift (ix1 c) k = ix2 k c := fun k => by
    funext a; apply Fin.ext; fin_cases a <;> rfl
  have hterm : ∀ k : Fin 256, subf (fixedBlock (F := Ideal) v) (extf .f32 v bitsLt_bf16_f32) (reduces_S256x256_S256.lift (ix1 c) k)
      = if k = c then (1 : EReal) - v (ix2 c c) else 0 := fun k => by
    rw [hlift, subf_apply, extf_apply, fixedBlock_apply]
    by_cases h : k = c
    · subst h; rw [if_pos rfl, if_pos rfl]
    · rw [if_neg h, if_neg (fun hh => h (Fin.ext hh))]
      obtain ⟨x, hx⟩ := hv (ix2 k c)
      rw [hx]
      show (x : EReal) - (x : EReal) = 0
      rw [← EReal.coe_sub, sub_self, EReal.coe_zero]
  refine (Finset.sum_congr rfl fun k _ => hterm k).trans ?_
  exact (Finset.sum_ite_eq' Finset.univ c _).trans (if_pos (Finset.mem_univ c))

/-- The eight diagonal blocks, by number. -/
theorem blockAt : ∀ b : Fin 8, Block (256 * b.val)
  | 0 => block0 | 1 => block1 | 2 => block2 | 3 => block3 | 4 => block4 | 5 => block5 | 6 => block6 | 7 => block7

/-- The normalisation at an index: the reciprocal square root of the column's sum with the diagonal's entry replaced by one. -/
theorem dinvGoal_apply (A : Vec Ideal S2048x2048 .bf16) (hA : ∀ i, ∃ x : ℝ, A i = (x : EReal)) (deg : Vec Ideal S1x2048 .f32) (n : Fin 2048) :
    dinvGoal A deg (ix2 (0 : Fin 1) n) = Ideal.rsqrt (deg (ix2 (0 : Fin 1) n) + ((1 : EReal) - A (ix2 n n))) := by
  have hb : n.val / 256 < 8 := by have := n.isLt; omega
  have hc : n.val % 256 < 256 := Nat.mod_lt _ (by norm_num)
  refine congrArg (fun z : EReal => Ideal.rsqrt (deg (ix2 (0 : Fin 1) n) + z)) ?_
  refine (concatenate_ofFn_apply (t := S1x2048) (s₁ := S1x256) (1 : Fin 2) (fun b : Fin 8 => blockGain (F := Ideal) (View.ld A (diag (blockAt b))))
    concatenates_S1x256_S1x256_S1x256_S1x256_S1x256_S1x256_S1x256_S1x256_S1x2048_d1 rfl 256 rfl (ix2 (0 : Fin 1) n) ⟨n.val / 256, hb⟩ rfl
    (ix2 (0 : Fin 1) (⟨n.val % 256, hc⟩ : Fin 256)) rfl (fun b hb => ?_)).trans ?_
  · fin_cases b
    · rfl
    · exact absurd rfl hb
  · rw [blockGain_apply (View.ld A (diag (blockAt ⟨n.val / 256, hb⟩))) (fun i => hA _), View.ld_apply, diag_idx]
    refine congrArg (fun z => (1 : EReal) - A z) ?_
    have : 256 * (n.val / 256) + n.val % 256 = n.val := Nat.div_add_mod _ _
    exact congrArg₂ (fun a b : Fin 2048 => ix2 a b) (Fin.ext this) (Fin.ext this)

/-! ## The first steps' values -/

theorem dot_first_eq : dot_S256x256_S256x2048_S256x2048_1_0_0_1_n_n = DotDims.plain 256 256 2048 := rfl
theorem dot_out_eq : dot_S2048x256_S256x256_S2048x256_1_0_0_1_n_n = DotDims.plain 2048 256 256 := rfl

/-- The first features at an index. -/
theorem pay4_apply (x : Vec Ideal S2048x256 .f32) (b : Vec Ideal S1x256 .f32) (W : Vec Ideal S256x256 .f32) (r : Fin 256) (n : Fin 2048) :
    k0_pay4 (F := Ideal) x b W (ix2 r n) = max ((∑ k : Fin 256, W (ix2 r k) * x (ix2 n k)) + b (ix2 (0 : Fin 1) r)) 0 := by
  unfold k0_pay4
  rw [maximumf_apply, addf_apply, shapeCast_self]
  simp only [matmul]
  rw [dot_first_eq, Ideal.matmul_plain_apply, constant_apply, Ideal.ofBits_zero_f32, zero_add, broadcast_apply,
    broadcastTo_apply _ _ _ (ix2 r (0 : Fin 1)) (fun a => by fin_cases a <;> rfl), transpose_ix2_apply]
  refine congrArg₂ (fun z y : EReal => max (z + b (ix2 (0 : Fin 1) r)) y) (Finset.sum_congr rfl fun k _ => ?_) Ideal.ofBits_zero_f32
  rw [truncf_apply, truncf_apply, transpose_ix2_apply]

/-- The first features as stored. -/
theorem pay5_apply (x : Vec Ideal S2048x256 .f32) (b : Vec Ideal S1x256 .f32) (W : Vec Ideal S256x256 .f32) (i : S256x2048.Idx) :
    k0_pay5 (F := Ideal) x b W i = k0_pay4 (F := Ideal) x b W i := by
  unfold k0_pay5
  rw [shapeCast_self]

/-- The residual as stored. -/
theorem pay6_apply (x : Vec Ideal S2048x256 .f32) (b : Vec Ideal S1x256 .f32) (W : Vec Ideal S256x256 .f32) (i : S256x2048.Idx) :
    k0_pay6 (F := Ideal) x b W i = Ideal.ofBits .f32 0x3DCCCCCD#32 * k0_pay4 (F := Ideal) x b W i := by
  unfold k0_pay6
  rw [shapeCast_self]
  rfl

/-- A piece of the adjacency as stored: the entries as numbers. -/
theorem pay3_apply (v : Vec Ideal S1024x2048 .i32) (i : S1024x2048.Idx) : k0_pay3 (F := Ideal) v i = (((v i : BitVec 32).toInt : ℝ) : EReal) := by
  unfold k0_pay3
  rw [shapeCast_self]
  rfl

/-- The column sums of a piece at an index, added to what the sums were, or to zero at the first point. -/
theorem pay2_apply (i : grid0.Coords) (v : Vec Ideal S1024x2048 .i32) (g : Vec Ideal S1x2048 .f32) (n : Fin 2048) :
    k0_pay2 (F := Ideal) i v g (ix2 (0 : Fin 1) n)
      = Scalar.select (Scalar.cmpi .eq (BitVec.ofNat 32 (i 0).val) 0#32) (0 : EReal) (g (ix2 (0 : Fin 1) n))
        + ∑ k : Fin 1024, (((v (ix2 k n) : BitVec 32).toInt : ℝ) : EReal) := by
  unfold k0_pay2
  rw [shapeCast_self, addf_apply, shapeCast_a_1a_apply]
  have hlift : ∀ k : Fin 1024, reduces_S1024x2048_S2048.lift (ix1 n) k = ix2 k n := fun k => by
    funext a; apply Fin.ext; fin_cases a <;> rfl
  refine congrArg₂ (fun a b : EReal => a + b) ?_
    ((Ideal.multiReduction_add_single _ _ reduces_S1024x2048_S2048 _ _ _).trans (Finset.sum_congr rfl fun k _ => ?_))
  · show (Scalar.select _ (fun _ => Ideal.ofBits .f32 0x00000000#32) g : S1x2048.Idx → EReal) _ = _
    rw [Ideal.ofBits_zero_f32]
    unfold Scalar.select
    split <;> rfl
  · exact (congrArg (k0_pay1 (F := Ideal) v) (hlift k)).trans rfl

/-- The output at an index, the last gain on the weights. -/
theorem pay133_apply (W1 : Vec Ideal S256x256 .f32) (H : Vec Ideal S256x2048 .f32) (b1 : Vec Ideal S1x256 .f32) (n : Fin 2048) (r : Fin 256) :
    k0_pay133 (F := Ideal) W1 H b1 (ix2 n r)
      = (∑ k : Fin 256, H (ix2 k n) * (Ideal.ofBits .f32 0x3F707AE8#32 * W1 (ix2 r k))) + b1 (ix2 (0 : Fin 1) r) := by
  unfold k0_pay133
  rw [addf_apply, shapeCast_self]
  simp only [matmul]
  rw [dot_out_eq, Ideal.matmul_plain_apply, constant_apply, Ideal.ofBits_zero_f32, zero_add, broadcastTo_1b_ab_apply]
  refine congrArg (fun z : EReal => z + b1 (ix2 (0 : Fin 1) r)) (Finset.sum_congr rfl fun k _ => ?_)
  rw [truncf_apply, truncf_apply, transpose_ix2_apply, mulf_apply, broadcast_apply, transpose_ix2_apply]
  rfl

end Cert.KernelIdeal.Hand

end
-- ==== Proof.Consts.lean ====
/- The constants that the programs spell, as the extended reals they denote, and what a layer's three constants do to its features. -/
module

public import proofs.«01_k».proof.Proof.Gen.KernelIdeal
public import Idealize.ShloMosaic.PureOps.Ideal
public import Idealize.ShloMosaic.PureOps.IdealRules

@[expose] public section

noncomputable section

namespace Cert.Hand

open Idealize.ShloMosaic

/-! ## Sums of extended reals -/

/-- A sum of reals is the same taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real times a sum is the sum of its products, whatever the summands. -/
theorem coe_mul_sum {ι : Type*} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- A positive real times the greater of a number and zero. -/
theorem coe_mul_max (c : ℝ) (hc : 0 < c) (x : EReal) : (c : EReal) * max x 0 = max ((c : EReal) * x) 0 := by
  have h0 : (0 : EReal) ≤ (c : EReal) := EReal.coe_nonneg.mpr hc.le
  rcases le_total x 0 with hx | hx
  · rw [max_eq_right hx, mul_zero, max_eq_right]
    exact EReal.mul_nonpos_iff.mpr (Or.inl ⟨h0, hx⟩)
  · rw [max_eq_left hx, max_eq_left (mul_nonneg h0 hx)]

/-! ## A layer's constants -/

/-- The gain times the ratio is the share: a positive real, a nonnegative one, and their product. -/
def Balanced (gain ratio share : EReal) : Prop :=
  ∃ g r s : ℝ, 0 < g ∧ 0 ≤ r ∧ g * r = s ∧ gain = (g : EReal) ∧ ratio = (r : EReal) ∧ share = (s : EReal)

/-- The gain taken out of a layer's rectifier. -/
theorem Balanced.step {gain ratio share : EReal} (h : Balanced gain ratio share) (m : EReal) {ι : Type*} (s : Finset ι) (w f : ι → EReal) :
    gain * max (m + ∑ k ∈ s, ratio * w k * f k) 0 = max (gain * m + share * ∑ k ∈ s, f k * w k) 0 := by
  obtain ⟨g, r, t, hg, hr, hgr, rfl, rfl, rfl⟩ := h
  rw [coe_mul_max g hg, EReal.left_distrib_of_nonneg_of_ne_top (EReal.coe_nonneg.mpr hg.le) (EReal.coe_ne_top g), ← hgr, EReal.coe_mul, mul_assoc,
    coe_mul_sum s r hr]
  refine congrArg (fun z => max (_ + _ * z) 0) (Finset.sum_congr rfl fun k _ => ?_)
  rw [mul_assoc, mul_comm (w k)]

/-- The constants of each layer are so. -/
theorem balanced0 : Balanced (Ideal.ofBits .f32 0x3F183370#32) (Named.named (F := Ideal) Cert.KernelIdeal.κ "ratio0" (φ := .f32) 0x3F2E96B4#32) (Ideal.ofBits .f32 0x3ECF991F#32) :=
  ⟨623415 / 1048576, 13605151 / 19949280, 13605151 / 33554432, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩
theorem balanced1 : Balanced (Ideal.ofBits .f32 0x3F46E010#32) (Named.named (F := Ideal) Cert.KernelIdeal.κ "ratio1" (φ := .f32) 0x3E931101#32) (Ideal.ofBits .f32 0x3E647FBE#32) :=
  ⟨814593 / 1048576, 7487455 / 26066976, 7487455 / 33554432, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩
theorem balanced2 : Balanced (Ideal.ofBits .f32 0x3F588995#32) (Named.named (F := Ideal) Cert.KernelIdeal.κ "ratio2" (φ := .f32) 0x3E3A9E15#32) (Ideal.ofBits .f32 0x3E1DD9AD#32) :=
  ⟨14190997 / 16777216, 10344877 / 56763988, 10344877 / 67108864, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩
theorem balanced3 : Balanced (Ideal.ofBits .f32 0x3F61D8F9#32) (Named.named (F := Ideal) Cert.KernelIdeal.κ "ratio3" (φ := .f32) 0x3E08B653#32) (Ideal.ofBits .f32 0x3DF1383B#32) :=
  ⟨14801145 / 16777216, 15808571 / 118409160, 15808571 / 134217728, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩
theorem balanced4 : Balanced (Ideal.ofBits .f32 0x3F6799C1#32) (Named.named (F := Ideal) Cert.KernelIdeal.κ "ratio4" (φ := .f32) 0x3DD7C262#32) (Ideal.ofBits .f32 0x3DC331FC#32) :=
  ⟨15178177 / 16777216, 3198079 / 30356354, 3198079 / 33554432, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩
theorem balanced5 : Balanced (Ideal.ofBits .f32 0x3F6B8252#32) (Named.named (F := Ideal) Cert.KernelIdeal.κ "ratio5" (φ := .f32) 0x3DB230B7#32) (Ideal.ofBits .f32 0x3DA3ED6E#32) :=
  ⟨7717161 / 8388608, 1790525 / 20579096, 5371575 / 67108864, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩
theorem balanced6 : Balanced (Ideal.ofBits .f32 0x3F6E567C#32) (Named.named (F := Ideal) Cert.KernelIdeal.κ "ratio6" (φ := .f32) 0x3D97C4B1#32) (Ideal.ofBits .f32 0x3D8D4C22#32) :=
  ⟨3904927 / 4194304, 4630033 / 62478832, 4630033 / 67108864, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩
theorem balanced7 : Balanced (Ideal.ofBits .f32 0x3F707AE8#32) (Named.named (F := Ideal) Cert.KernelIdeal.κ "ratio7" (φ := .f32) 0x3D842C0F#32) (Ideal.ofBits .f32 0x3D785186#32) :=
  ⟨1970013 / 2097152, 8136899 / 126080832, 8136899 / 134217728, by norm_num, by norm_num, by norm_num,
    by simp [Ideal.ofBits, Ideal.ieee, -EReal.coe_mul]; norm_num, IdealRules.named_const.ideal_named_scalar _ _ _ _ rfl, by simp [Ideal.ofBits, Ideal.ieee, -EReal.coe_mul]; norm_num⟩

end Cert.Hand

end
-- ==== Proof.RefLayers.lean ====
/- The reference read at an index, over the extended reals: its adjacency, its normalisation, its first features, one layer, its output. -/
module

public import proofs.«01_k».proof.Proof.Consts
public import proofs.«01_k».proof.Proof.Gen.ReferenceIdeal.Run
public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.IdealHost
public import Idealize.ShloMosaic.Lib.StackMember
public import Idealize.ShloMosaic.Lib.Pipeline.Value
public import Idealize.ShloMosaic.Lib.WordCmp

@[expose] public section

noncomputable section

namespace Cert.ReferenceIdeal.Hand

open Idealize.ShloMosaic Idealize.ShloMosaic.ValueIdx
open Idealize.ShloMosaic.StackMember (dotGeneral_plain_apply)
open Cert.ReferenceIdeal Cert.ReferenceIdeal.Gen Cert.ReferenceIdeal.Value

/-! ## One layer -/

/-- A column repeated along the rows' other axis. -/
theorem column_apply (d : FVec Ideal S2048 .f32) (n : Fin 2048) (r : Fin 256) :
    broadcastInDim S2048x256 ![0, 1] bcast_S2048x1_S2048x256_0_1 (broadcastInDim S2048x1 ![0] bcast_S2048_S2048x1_0 d) (ix2 n r) = d (ix1 n) := by
  rw [broadcastInDim_apply _ _ _ _ (ix2 n (0 : Fin 1)) (fun a => by fin_cases a <;> rfl),
    broadcastInDim_apply _ _ _ _ (ix1 n) (fun a => by fin_cases a <;> rfl)]

/-- A row repeated along the columns. -/
theorem row_apply (b : FVec Ideal S256 .f32) (n : Fin 2048) (r : Fin 256) :
    broadcastInDim S2048x256 ![0, 1] bcast_S1x256_S2048x256_0_1 (broadcastInDim S1x256 ![1] bcast_S256_S1x256_1 b) (ix2 n r) = b (ix1 r) := by
  rw [broadcastInDim_apply _ _ _ _ (ix2 (0 : Fin 1) r) (fun a => by fin_cases a <;> rfl),
    broadcastInDim_apply _ _ _ _ (ix1 r) (fun a => by fin_cases a <;> rfl)]

theorem dot_adj_eq : dot_S2048x2048_S2048x256_S2048x256_1_0_0_1_n_n = DotDims.plain 2048 2048 256 := rfl
theorem dot_feat_eq : dot_S2048x256_S256x256_S2048x256_1_0_0_1_n_n = DotDims.plain 2048 256 256 := rfl

/-- The propagated features with the residual. -/
def refMix (A : FVec Ideal S2048x2048 .f32) (d : FVec Ideal S2048 .f32) (h h0 : FVec Ideal S2048x256 .f32) : FVec Ideal S2048x256 .f32 :=
  addf (mulf (broadcastInDim S2048x256 ![] bcast_S_S2048x256 (constant S_ .f32 0x3F666666#32)) (mulf (broadcastInDim S2048x256 ![0, 1] bcast_S2048x1_S2048x256_0_1 (broadcastInDim S2048x1 ![0] bcast_S2048_S2048x1_0 d)) (Host.dotGeneral dot_S2048x2048_S2048x256_S2048x256_1_0_0_1_n_n none (transpose S2048x2048 [1, 0] A transposes_S2048x2048_S2048x2048_1_0) (mulf (broadcastInDim S2048x256 ![0, 1] bcast_S2048x1_S2048x256_0_1 (broadcastInDim S2048x1 ![0] bcast_S2048_S2048x1_0 d)) h)))) (mulf (broadcastInDim S2048x256 ![] bcast_S_S2048x256 (constant S_ .f32 0x3DCCCCCD#32)) h0)

/-- The features after the weights and the rectifier. -/
def refAct {l : ℕ} (hl : S8x256x256.Slices ![l, 0, 0] S1x256x256) (g s : BitVec 32) (W : FVec Ideal S8x256x256 .f32) (m : FVec Ideal S2048x256 .f32) : FVec Ideal S2048x256 .f32 :=
  maximumf (addf (mulf (broadcastInDim S2048x256 ![] bcast_S_S2048x256 (constant S_ .f32 g)) m) (mulf (broadcastInDim S2048x256 ![] bcast_S_S2048x256 (constant S_ .f32 s)) (Host.dotGeneral dot_S2048x256_S256x256_S2048x256_1_0_0_1_n_n none m (shapeCast S256x256 (extractStridedSlice S1x256x256 ![l, 0, 0] W hl) shapeCasts_S1x256x256_S256x256)))) (broadcastInDim S2048x256 ![] bcast_S_S2048x256 (constant S_ .f32 0x00000000#32))

/-- The output product. -/
def refOut (h : FVec Ideal S2048x256 .f32) (W1 : FVec Ideal S256x256 .f32) (b1 : FVec Ideal S256 .f32) : FVec Ideal S2048x256 .f32 :=
  addf (Host.dotGeneral dot_S2048x256_S256x256_S2048x256_1_0_0_1_n_n none h (transpose S256x256 [1, 0] W1 transposes_S256x256_S256x256_1_0)) (broadcastInDim S2048x256 ![0, 1] bcast_S1x256_S2048x256_0_1 (broadcastInDim S1x256 ![1] bcast_S256_S1x256_1 b1))

/-- The propagated features at an index. -/
theorem refMix_apply (A : FVec Ideal S2048x2048 .f32) (d : FVec Ideal S2048 .f32) (h h0 : FVec Ideal S2048x256 .f32) (n : Fin 2048) (r : Fin 256) :
    refMix A d h h0 (ix2 n r) = Ideal.ofBits .f32 0x3F666666#32 * (d (ix1 n) * ∑ k : Fin 2048, A (ix2 k n) * (d (ix1 k) * h (ix2 k r)))
      + Ideal.ofBits .f32 0x3DCCCCCD#32 * h0 (ix2 n r) := by
  unfold refMix
  rw [addf_apply, mulf_apply, mulf_apply, mulf_apply, broadcastInDim_scalar_apply, broadcastInDim_scalar_apply, column_apply, dot_adj_eq, dotGeneral_plain_apply]
  refine congrArg (fun z : EReal => Ideal.ofBits .f32 0x3F666666#32 * (d (ix1 n) * z) + _) (Finset.sum_congr rfl fun k _ => ?_)
  rw [transpose_ix2_apply, mulf_apply, column_apply]

/-- The activated features at an index. -/
theorem refAct_apply {l : ℕ} (hl : S8x256x256.Slices ![l, 0, 0] S1x256x256) (hl8 : l < 8) (g s : BitVec 32) (W : FVec Ideal S8x256x256 .f32) (m : FVec Ideal S2048x256 .f32) (n : Fin 2048) (r : Fin 256) :
    refAct hl g s W m (ix2 n r) = max (Ideal.ofBits .f32 g * m (ix2 n r) + Ideal.ofBits .f32 s * ∑ k : Fin 256, m (ix2 n k) * W (ix3 (⟨l, hl8⟩ : Fin 8) k r)) 0 := by
  unfold refAct
  rw [maximumf_apply, addf_apply, mulf_apply, mulf_apply, broadcastInDim_scalar_apply, broadcastInDim_scalar_apply, broadcastInDim_scalar_apply, dot_feat_eq, dotGeneral_plain_apply]
  refine congrArg₂ (fun z y : EReal => max (Ideal.ofBits .f32 g * m (ix2 n r) + Ideal.ofBits .f32 s * z) y) (Finset.sum_congr rfl fun k _ => ?_) Ideal.ofBits_zero_f32
  rw [shapeCast_1ab_ab_apply]
  refine congrArg (fun z : EReal => m (ix2 n k) * z) (extractStridedSlice_apply _ _ _ _ _ fun a => ?_)
  fin_cases a
  · rfl
  · exact (Nat.zero_add _).symm
  · exact (Nat.zero_add _).symm

/-- The output at an index. -/
theorem refOut_apply (h : FVec Ideal S2048x256 .f32) (W1 : FVec Ideal S256x256 .f32) (b1 : FVec Ideal S256 .f32) (n : Fin 2048) (r : Fin 256) :
    refOut h W1 b1 (ix2 n r) = (∑ k : Fin 256, h (ix2 n k) * W1 (ix2 r k)) + b1 (ix1 r) := by
  unfold refOut
  rw [addf_apply, row_apply, dot_feat_eq, dotGeneral_plain_apply]
  refine congrArg (fun z : EReal => z + _) (Finset.sum_congr rfl fun k _ => ?_)
  rw [transpose_ix2_apply]

/-! ## The reference's values -/

variable (V0 : Valuation τ sig (Elt Ideal))

/-- The arguments the values are stated of. -/
abbrev feats : FVec Ideal S2048x256 .f32 := V0 (Proc.devRef .tc main_arg0)
@[inherit_doc feats] abbrev entries : IVec S2048x2048 32 := V0 (Proc.devRef .tc main_arg1)
@[inherit_doc feats] abbrev firstW : FVec Ideal S256x256 .f32 := V0 (Proc.devRef .tc main_arg2)
@[inherit_doc feats] abbrev firstB : FVec Ideal S256 .f32 := V0 (Proc.devRef .tc main_arg3)
@[inherit_doc feats] abbrev lastW : FVec Ideal S256x256 .f32 := V0 (Proc.devRef .tc main_arg4)
@[inherit_doc feats] abbrev lastB : FVec Ideal S256 .f32 := V0 (Proc.devRef .tc main_arg5)
@[inherit_doc feats] abbrev layerW : FVec Ideal S8x256x256 .f32 := V0 (Proc.devRef .tc main_arg6)
/-- The values named at their shapes. -/
abbrev adj : FVec Ideal S2048x2048 .f32 := res_main_v8 V0
@[inherit_doc adj] abbrev norm : FVec Ideal S2048 .f32 := res_main_v13 V0
@[inherit_doc adj] abbrev start : FVec Ideal S2048x256 .f32 := res_main_v19 V0

/-- The first features at an index. -/
theorem start_apply (n : Fin 2048) (r : Fin 256) :
    start V0 (ix2 n r) = max ((∑ k : Fin 256, feats V0 (ix2 n k) * firstW V0 (ix2 r k)) + firstB V0 (ix1 r)) 0 := by
  refine (maximumf_apply _ _ _).trans ?_
  rw [broadcastInDim_scalar_apply]
  exact congrArg₂ (fun z y : EReal => max z y) (refOut_apply _ _ _ n r) Ideal.ofBits_zero_f32

/-- The adjacency at an index: one on the diagonal and where the entry is not zero. -/
theorem adj_apply (k n : Fin 2048) :
    adj V0 (ix2 k n) = if k.val = n.val then (1 : EReal) else if entries V0 (ix2 k n) = 0#32 then 0 else 1 := by
  have hk : k.val < 2 ^ 32 := k.isLt.trans (by norm_num)
  have hn : n.val < 2 ^ 32 := n.isLt.trans (by norm_num)
  have h1 : (constant (F := Ideal) S_ .f32 0x3F800000#32) ix0 = (1 : EReal) := Ideal.ofBits_one_f32
  have h0 : (constant (F := Ideal) S_ .f32 0x00000000#32) ix0 = (0 : EReal) := Ideal.ofBits_zero_f32
  have hbit : IntOp.cmpi .eq (BitVec.ofNat 32 k.val + 0#32) (BitVec.ofNat 32 n.val) = if k.val = n.val then 1#1 else 0#1 := by
    rw [BitVec.add_zero]
    split
    · exact (WordCmp.cmpi_eq_ofNat_eq_one_iff hk hn).2 ‹_›
    · exact (WordCmp.cmpi_eq_ofNat_eq_zero_iff hk hn).2 ‹_›
  have hent : IntOp.cmpi .ne (entries V0 (ix2 k n)) 0#32 = if entries V0 (ix2 k n) = 0#32 then 0#1 else 1#1 := by
    split
    · rw [‹entries V0 (ix2 k n) = 0#32›]; rfl
    · show BitVec.ofBool (entries V0 (ix2 k n) != 0#32) = 1#1
      rw [bne_iff_ne.2 ‹_›]; rfl
  show Scalar.select (IntOp.cmpi .eq (BitVec.ofNat 32 k.val + (constantI S_ 32 0#32) _) (BitVec.ofNat 32 n.val))
    ((constant (F := Ideal) S_ .f32 0x3F800000#32) _)
    (Scalar.select (IntOp.cmpi .ne (entries V0 (ix2 k n)) ((constantI S_ 32 0#32) _)) ((constant (F := Ideal) S_ .f32 0x3F800000#32) _) ((constant (F := Ideal) S_ .f32 0x00000000#32) _)) = _
  simp only [constantI, Subsingleton.elim _ ix0, h1, h0, hbit, hent]
  by_cases hkn : k.val = n.val
  · rw [if_pos hkn, if_pos hkn, select_one]
  · rw [if_neg hkn, if_neg hkn, select_zero]
    by_cases he : entries V0 (ix2 k n) = 0#32
    · rw [if_pos he, if_pos he, select_zero]
    · rw [if_neg he, if_neg he, select_one]

/-- The normalisation at an index. -/
theorem norm_apply (n : Fin 2048) :
    norm V0 (ix1 n) = Ideal.div 1 (Ideal.sqrt (∑ k : Fin 2048, adj V0 (ix2 k n))) := by
  refine (hostDivf_apply _ _ _).trans (congrArg₂ Ideal.div ?_ (congrArg Ideal.sqrt ?_))
  · rw [broadcastInDim_scalar_apply]
    exact Ideal.ofBits_one_f32
  · have hr : Shape.Reduces S2048x2048 [0] S2048 := by decide
    refine (hostReduceAdd_apply _ _ _ _ _).trans ((Ideal.hostReduceAdd_single _ hr _ _ _).trans ?_)
    refine (congrArg₂ (fun a b : EReal => a + b) Ideal.ofBits_zero_f32 (Finset.sum_congr rfl fun k _ => ?_)).trans (zero_add _)
    refine congrArg (adj V0) (funext fun a => Fin.ext ?_)
    fin_cases a <;> rfl

/-- Each layer's propagated features are the layer's function of the one before. -/
theorem v32_eq : res_main_v32 V0 = refMix (res_main_v8 V0) (res_main_v13 V0) (res_main_v19 V0) (res_main_v19 V0) := rfl
@[inherit_doc v32_eq] theorem v54_eq : res_main_v54 V0 = refMix (res_main_v8 V0) (res_main_v13 V0) (refAct slices_S8x256x256_S1x256x256_0_0_0 0x3F183370#32 0x3ECF991F#32 (layerW V0) (res_main_v32 V0)) (res_main_v19 V0) := rfl
@[inherit_doc v32_eq] theorem v76_eq : res_main_v76 V0 = refMix (res_main_v8 V0) (res_main_v13 V0) (refAct slices_S8x256x256_S1x256x256_1_0_0 0x3F46E010#32 0x3E647FBE#32 (layerW V0) (res_main_v54 V0)) (res_main_v19 V0) := rfl
@[inherit_doc v32_eq] theorem v98_eq : res_main_v98 V0 = refMix (res_main_v8 V0) (res_main_v13 V0) (refAct slices_S8x256x256_S1x256x256_2_0_0 0x3F588995#32 0x3E1DD9AD#32 (layerW V0) (res_main_v76 V0)) (res_main_v19 V0) := rfl
@[inherit_doc v32_eq] theorem v120_eq : res_main_v120 V0 = refMix (res_main_v8 V0) (res_main_v13 V0) (refAct slices_S8x256x256_S1x256x256_3_0_0 0x3F61D8F9#32 0x3DF1383B#32 (layerW V0) (res_main_v98 V0)) (res_main_v19 V0) := rfl
@[inherit_doc v32_eq] theorem v142_eq : res_main_v142 V0 = refMix (res_main_v8 V0) (res_main_v13 V0) (refAct slices_S8x256x256_S1x256x256_4_0_0 0x3F6799C1#32 0x3DC331FC#32 (layerW V0) (res_main_v120 V0)) (res_main_v19 V0) := rfl
@[inherit_doc v32_eq] theorem v164_eq : res_main_v164 V0 = refMix (res_main_v8 V0) (res_main_v13 V0) (refAct slices_S8x256x256_S1x256x256_5_0_0 0x3F6B8252#32 0x3DA3ED6E#32 (layerW V0) (res_main_v142 V0)) (res_main_v19 V0) := rfl
@[inherit_doc v32_eq] theorem v186_eq : res_main_v186 V0 = refMix (res_main_v8 V0) (res_main_v13 V0) (refAct slices_S8x256x256_S1x256x256_6_0_0 0x3F6E567C#32 0x3D8D4C22#32 (layerW V0) (res_main_v164 V0)) (res_main_v19 V0) := rfl

end Cert.ReferenceIdeal.Hand

end
-- ==== Proof.Meet.lean ====
/- The kernel's transposed layers against the reference's, over the extended reals: a layer from features that agree gives features that
   agree, so the outputs agree. -/
module

public import proofs.«01_k».proof.Proof.Values
public import proofs.«01_k».proof.Proof.RefLayers

@[expose] public section

noncomputable section

namespace Cert.Hand

open Idealize.ShloMosaic Idealize.ShloMosaic.ValueIdx
open Cert.KernelIdeal (S256x256 S256x2048 S1x2048 S2048x2048 S8x256x256 S2048x256 S2048 S1x256 S256)
open Cert.KernelIdeal.Hand Cert.ReferenceIdeal.Hand
open Cert.KernelIdeal.Gen (inb_S8x256x256_S1x256x256_0_0_0 inb_S8x256x256_S1x256x256_1_0_0 inb_S8x256x256_S1x256x256_2_0_0 inb_S8x256x256_S1x256x256_3_0_0 inb_S8x256x256_S1x256x256_4_0_0 inb_S8x256x256_S1x256x256_5_0_0 inb_S8x256x256_S1x256x256_6_0_0 inb_S8x256x256_S1x256x256_7_0_0)
open Cert.ReferenceIdeal.Gen (slices_S8x256x256_S1x256x256_0_0_0 slices_S8x256x256_S1x256x256_1_0_0 slices_S8x256x256_S1x256x256_2_0_0 slices_S8x256x256_S1x256x256_3_0_0 slices_S8x256x256_S1x256x256_4_0_0 slices_S8x256x256_S1x256x256_5_0_0 slices_S8x256x256_S1x256x256_6_0_0 slices_S8x256x256_S1x256x256_7_0_0)
open Cert.ReferenceIdeal.Value (res_main_v186)

/-- What the kernel's arrays and the reference's have in common before the layers: the normalisation, the adjacency, the first features and
    the residual made of them. -/
structure Meets (dd : FVec Ideal S1x2048 .f32) (A : Vec Ideal S2048x2048 .bf16) (h0a h : Vec Ideal S256x2048 .f32)
    (d : FVec Ideal S2048 .f32) (B : FVec Ideal S2048x2048 .f32) (h0 : FVec Ideal S2048x256 .f32) : Prop where
  norm : ∀ n : Fin 2048, dd (ix2 (0 : Fin 1) n) = d (ix1 n)
  adj : ∀ k n : Fin 2048, A (ix2 k n) = B (ix2 k n)
  start : ∀ (r : Fin 256) (n : Fin 2048), h (ix2 r n) = h0 (ix2 n r)
  residual : ∀ (r : Fin 256) (n : Fin 2048), h0a (ix2 r n) = Ideal.ofBits .f32 0x3DCCCCCD#32 * h0 (ix2 n r)

/-- A transposed array holds the same numbers. -/
def Turned (M : Vec Ideal S256x2048 .f32) (mm : FVec Ideal S2048x256 .f32) : Prop := ∀ (r : Fin 256) (n : Fin 2048), M (ix2 r n) = mm (ix2 n r)

/-- A transposed array holds the same numbers, each scaled by its row's normalisation. -/
def Scaled (d : FVec Ideal S2048 .f32) (us : Vec Ideal S256x2048 .bf16) (hh : FVec Ideal S2048x256 .f32) : Prop :=
  ∀ (r : Fin 256) (n : Fin 2048), us (ix2 r n) = d (ix1 n) * hh (ix2 n r)

section

variable {dd : FVec Ideal S1x2048 .f32} {A : Vec Ideal S2048x2048 .bf16} {h0a h : Vec Ideal S256x2048 .f32}
  {d : FVec Ideal S2048 .f32} {B : FVec Ideal S2048x2048 .f32} {h0 : FVec Ideal S2048x256 .f32} (M : Meets dd A h0a h d B h0)

include M

/-- The first scaled features. -/
theorem first_scaled : Scaled d (firstScaled (F := Ideal) dd h) h0 := fun r n => by
  rw [firstScaled_apply, M.norm, M.start]

/-- The propagated features. -/
theorem mix_turned {us : Vec Ideal S256x2048 .bf16} {hh : FVec Ideal S2048x256 .f32} (hus : Scaled d us hh) :
    Turned (mixGoal (rowTimes (F := Ideal) nine dd) us A h0a) (refMix B d hh h0) := fun r n => by
  rw [refMix_apply]
  show (∑ k : Fin 2048, us (ix2 r k) * A (ix2 k n)) * rowTimes (F := Ideal) nine dd (ix2 (0 : Fin 1) n) + h0a (ix2 r n) = _
  rw [rowTimes_apply, M.norm, M.residual]
  have hs : (∑ k : Fin 2048, us (ix2 r k) * A (ix2 k n)) = ∑ k : Fin 2048, B (ix2 k n) * (d (ix1 k) * hh (ix2 k r)) :=
    Finset.sum_congr rfl fun k _ => by rw [hus, M.adj, mul_comm]
  rw [hs]
  refine congrArg (fun z : EReal => z + _) ?_
  rw [mul_comm, mul_assoc]
  rfl

omit M in
/-- The features after a layer's weights, but for the gain. -/
theorem relu_turned {l : ℕ} (hl : RowAt l) (hl8 : l < 8) (hs : Cert.ReferenceIdeal.S8x256x256.Slices ![l, 0, 0] Cert.ReferenceIdeal.S1x256x256)
    {ratio : EReal} {g s : BitVec 32} (hb : Balanced (Ideal.ofBits .f32 g) ratio (Ideal.ofBits .f32 s)) (W : Vec Ideal S8x256x256 .f32)
    {X : Vec Ideal S256x2048 .f32} {mm : FVec Ideal S2048x256 .f32} (hX : Turned X mm) (r : Fin 256) (n : Fin 2048) :
    Ideal.ofBits .f32 g * reluGoal (layerWeights hl ratio W) X (ix2 r n) = refAct hs g s W mm (ix2 n r) := by
  rw [refAct_apply hs hl8]
  show _ * max (X (ix2 r n) + ∑ k : Fin 256, layerWeights hl ratio W (ix2 r k) * X (ix2 k n)) 0 = _
  rw [hX]
  have hw : (∑ k : Fin 256, layerWeights hl ratio W (ix2 r k) * X (ix2 k n)) = ∑ k : Fin 256, ratio * W (ix3 (⟨l, hl8⟩ : Fin 8) k r) * mm (ix2 n k) :=
    Finset.sum_congr rfl fun k _ => by rw [layerWeights_apply hl hl8, hX]
  rw [hw]
  exact hb.step _ _ (fun k : Fin 256 => W (ix3 (⟨l, hl8⟩ : Fin 8) k r)) (fun k : Fin 256 => mm (ix2 n k))

/-- One layer's scaled features. -/
theorem layer_scaled {l : ℕ} (hl : RowAt l) (hl8 : l < 8) (hs : Cert.ReferenceIdeal.S8x256x256.Slices ![l, 0, 0] Cert.ReferenceIdeal.S1x256x256)
    {ratio : EReal} {g s : BitVec 32} (hb : Balanced (Ideal.ofBits .f32 g) ratio (Ideal.ofBits .f32 s)) (W : Vec Ideal S8x256x256 .f32)
    {us : Vec Ideal S256x2048 .bf16} {hh : FVec Ideal S2048x256 .f32} (hus : Scaled d us hh) :
    Scaled d (layerGoal hl ratio (Scalar.ofBits (F := Ideal) .f32 g) dd (rowTimes (F := Ideal) nine dd) W A h0a us) (refAct hs g s W (refMix B d hh h0)) := fun r n => by
  rw [← relu_turned hl hl8 hs hb W (mix_turned M hus) r n, ← M.norm]
  show reluGoal _ _ (ix2 r n) * rowTimes (F := Ideal) (Ideal.ofBits .f32 g) dd (ix2 (0 : Fin 1) n) = _
  rw [rowTimes_apply, mul_comm (dd _), ← mul_assoc]
  exact congrArg (fun z : EReal => z * dd (ix2 (0 : Fin 1) n)) (mul_comm _ _)

end

/-- From what the two have in common before the layers to the output: the kernel's output is the reference's. -/
theorem out_eq (V0 : Valuation Cert.ReferenceIdeal.τ Cert.ReferenceIdeal.sig (Elt Ideal)) {dd : FVec Ideal S1x2048 .f32} {A : Vec Ideal S2048x2048 .bf16}
    {h0a h : Vec Ideal S256x2048 .f32} (M : Meets dd A h0a h (norm V0) (adj V0) (start V0)) {W1 : Vec Ideal S256x256 .f32} {b1 : Vec Ideal S1x256 .f32}
    {W : Vec Ideal S8x256x256 .f32} (hW : W = layerW V0) (hW1 : W1 = lastW V0) (hb1 : ∀ r : Fin 256, b1 (ix2 (0 : Fin 1) r) = lastB V0 (ix1 r)) :
    Cert.KernelIdeal.Gen.k0_pay133 (F := Ideal) W1 (featGoal dd W A h0a h) b1
      = refOut (refAct slices_S8x256x256_S1x256x256_7_0_0 0x3F707AE8#32 0x3D785186#32 (layerW V0) (res_main_v186 V0)) (lastW V0) (lastB V0) := by
  subst hW hW1
  have s0 := layer_scaled M inb_S8x256x256_S1x256x256_0_0_0 (by norm_num) slices_S8x256x256_S1x256x256_0_0_0 balanced0 (layerW V0) (first_scaled M)
  rw [← v32_eq] at s0
  have s1 := layer_scaled M inb_S8x256x256_S1x256x256_1_0_0 (by norm_num) slices_S8x256x256_S1x256x256_1_0_0 balanced1 (layerW V0) s0
  rw [← v54_eq] at s1
  have s2 := layer_scaled M inb_S8x256x256_S1x256x256_2_0_0 (by norm_num) slices_S8x256x256_S1x256x256_2_0_0 balanced2 (layerW V0) s1
  rw [← v76_eq] at s2
  have s3 := layer_scaled M inb_S8x256x256_S1x256x256_3_0_0 (by norm_num) slices_S8x256x256_S1x256x256_3_0_0 balanced3 (layerW V0) s2
  rw [← v98_eq] at s3
  have s4 := layer_scaled M inb_S8x256x256_S1x256x256_4_0_0 (by norm_num) slices_S8x256x256_S1x256x256_4_0_0 balanced4 (layerW V0) s3
  rw [← v120_eq] at s4
  have s5 := layer_scaled M inb_S8x256x256_S1x256x256_5_0_0 (by norm_num) slices_S8x256x256_S1x256x256_5_0_0 balanced5 (layerW V0) s4
  rw [← v142_eq] at s5
  have s6 := layer_scaled M inb_S8x256x256_S1x256x256_6_0_0 (by norm_num) slices_S8x256x256_S1x256x256_6_0_0 balanced6 (layerW V0) s5
  rw [← v164_eq] at s6
  have s7 := mix_turned M s6
  rw [← v186_eq] at s7
  funext i
  obtain ⟨n, r, rfl⟩ : ∃ (n : Fin 2048) (r : Fin 256), i = ix2 n r := ⟨i 0, i 1, eq_ix2 i⟩
  rw [pay133_apply, refOut_apply, hb1]
  refine congrArg (fun z : EReal => z + lastB V0 (ix1 r)) (Finset.sum_congr rfl fun k _ => ?_)
  rw [← relu_turned inb_S8x256x256_S1x256x256_7_0_0 (by norm_num) slices_S8x256x256_S1x256x256_7_0_0 balanced7 (layerW V0) s7 k n, ← mul_assoc]
  refine congrArg (fun z : EReal => z * lastW V0 (ix2 r k)) ?_
  simp only [featGoal, lastGoal, usGoal]
  exact mul_comm (_ : EReal) _

end Cert.Hand

end
-- ==== Proof.Points3.lean ====
/- What the body does to known contents at each of the three grid points, over the extended reals. -/
module

public import proofs.«01_k».proof.Proof.Triples

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hand Cert.KernelIdeal.Gen

local notation "𝕄" => MT nD τ sig Unit (Elt Ideal) ℕ (UR sig nD τ) ℕ

variable (d : Dev nD)

/-- The rows of the adjacency that a grid point writes. -/
abbrev rowsAt (i : grid0.Coords) (h1 : k0_cond1 i = 1#1) : Rect S2048x2048 := Rect.unit (s := S2048x2048) (k0_off1 i) S1024x2048.size (k0_off1_inb i h1)

set_option maxHeartbeats 1600000 in
/-- The first point: the degrees are started, the first rows of the adjacency stored, and the first features computed. -/
theorem body_first (i : grid0.Coords) (arg1 : Memref sig .tc .vmem S2048x256 .f32) (harg1 : arg1.IsWhole) (arg2 : Memref sig .tc .vmem S1024x2048 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole)
    (arg6 : Memref sig .tc .vmem S1x256 .f32) (harg6 : arg6.IsWhole) (arg7 : Memref sig .tc .vmem S8x256x256 .f32) (harg7 : arg7.IsWhole) (arg8 : Memref sig .tc .vmem S2048x256 .f32) (harg8 : arg8.IsWhole) (arg9 : Memref sig .tc .vmem S2048x2048 .bf16) (harg9 : arg9.IsWhole) (arg10 : Memref sig .tc .vmem S256x2048 .bf16) (harg10 : arg10.IsWhole)
    (arg11 : Memref sig .tc .vmem S256x2048 .bf16) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S1x2048 .f32) (harg15 : arg15.IsWhole)
    (h1 : k0_cond1 i = 1#1) (h2 : Scalar.cmpi .ne (Scalar.extui (Scalar.cmpi .eq (BitVec.ofNat 32 (i 0).val) 0#32) : BitVec 32) 0#32 = 1#1) (h3 : ¬ k0_cond3 i = 1#1)
    (X1 : Vec Ideal S2048x256 .f32) (X2 : Vec Ideal S1024x2048 .i32) (X3 : Vec Ideal S256x256 .f32) (X4 : Vec Ideal S1x256 .f32) (A : Vec Ideal S2048x2048 .bf16)
    (R H : Vec Ideal S256x2048 .f32) (G : Vec Ideal S1x2048 .f32) (Q : PUnit → sProp 𝕄) :
    iprop(owns (d : Thread nD τ) arg1 fullShare X1 ∗ owns (d : Thread nD τ) arg2 fullShare X2 ∗ owns (d : Thread nD τ) arg3 fullShare X3 ∗ owns (d : Thread nD τ) arg4 fullShare X4 ∗ owns (d : Thread nD τ) arg9 fullShare A ∗ owns (d : Thread nD τ) arg12 fullShare R ∗ owns (d : Thread nD τ) arg13 fullShare H ∗ owns (d : Thread nD τ) arg15 fullShare G)
      ⊢ iprop((owns (d : Thread nD τ) arg1 fullShare X1 ∗ owns (d : Thread nD τ) arg2 fullShare X2 ∗ owns (d : Thread nD τ) arg3 fullShare X3 ∗ owns (d : Thread nD τ) arg4 fullShare X4 ∗ owns (d : Thread nD τ) arg9 fullShare ((rowsAt i h1).overlay A (k0_pay3 (F := Ideal) X2)) ∗ owns (d : Thread nD τ) arg12 fullShare (k0_pay6 (F := Ideal) X1 X4 X3) ∗ owns (d : Thread nD τ) arg13 fullShare (k0_pay5 (F := Ideal) X1 X4 X3) ∗ owns (d : Thread nD τ) arg15 fullShare (k0_pay2 (F := Ideal) i X2 G) -∗ Q ⟨⟩)
      -∗ wp (M := 𝕄) frame (wpE (defs₀ (F := Ideal)) Variants.none d none) Set.univ (cc0__gcnii_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  rw [cc0__gcnii_body_eq_skeleton]
  unfold cc0__gcnii_body_skel
  dsimp only
  rw [dif_pos h1, dif_pos h2, dif_neg h3]
  iintro ⟨H1, H2, H3, H4, HA, HR, HH, HG⟩ HQ
  iapply (wp_load_owns Variants.none (d : Thread nD τ) none Set.univ) $$ H2
  iintro H2
  iapply (wp_load_owns Variants.none (d : Thread nD τ) none Set.univ) $$ HG
  iintro HG
  iapply (wp_load_owns Variants.none (d : Thread nD τ) none Set.univ) $$ HG
  iintro HG
  iapply (wp_store_owns Variants.none (d : Thread nD τ) none Set.univ) $$ HG
  iintro HG
  iapply (wp_load_owns Variants.none (d : Thread nD τ) none Set.univ) $$ HA
  iintro HA
  iapply (wp_store_owns Variants.none (d : Thread nD τ) none Set.univ) $$ HA
  iintro HA
  iapply (wp_load_owns Variants.none (d : Thread nD τ) none Set.univ) $$ H1
  iintro H1
  iapply (wp_load_owns Variants.none (d : Thread nD τ) none Set.univ) $$ H4
  iintro H4
  iapply (wp_load_owns Variants.none (d : Thread nD τ) none Set.univ) $$ H3
  iintro H3
  iapply (wp_load_owns Variants.none (d : Thread nD τ) none Set.univ) $$ HH
  iintro HH
  iapply (wp_store_owns Variants.none (d : Thread nD τ) none Set.univ) $$ HH
  iintro HH
  iapply (wp_load_owns Variants.none (d : Thread nD τ) none Set.univ) $$ HR
  iintro HR
  iapply (wp_store_owns Variants.none (d : Thread nD τ) none Set.univ) $$ HR
  iintro HR
  rw [ld_all X2 ![0, 0], ld_all G ![0, 0], ld_all X1 ![0, 0], ld_all X4 ![0, 0], ld_all X3 ![0, 0], overlay_all G _ ![0, 0], overlay_all H _ ![0, 0], overlay_all R _ ![0, 0]]
  rw [wp_pure]
  imodintro
  iapply HQ
  isplitl [H1]; · iexact H1
  isplitl [H2]; · iexact H2
  isplitl [H3]; · iexact H3
  isplitl [H4]; · iexact H4
  isplitl [HA]; · iexact HA
  isplitl [HR]; · iexact HR
  isplitl [HH]; · iexact HH
  iexact HG

set_option maxHeartbeats 1600000 in
/-- The second point: the degrees are completed and the other rows of the adjacency stored. -/
theorem body_second (i : grid0.Coords) (arg1 : Memref sig .tc .vmem S2048x256 .f32) (harg1 : arg1.IsWhole) (arg2 : Memref sig .tc .vmem S1024x2048 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole)
    (arg6 : Memref sig .tc .vmem S1x256 .f32) (harg6 : arg6.IsWhole) (arg7 : Memref sig .tc .vmem S8x256x256 .f32) (harg7 : arg7.IsWhole) (arg8 : Memref sig .tc .vmem S2048x256 .f32) (harg8 : arg8.IsWhole) (arg9 : Memref sig .tc .vmem S2048x2048 .bf16) (harg9 : arg9.IsWhole) (arg10 : Memref sig .tc .vmem S256x2048 .bf16) (harg10 : arg10.IsWhole)
    (arg11 : Memref sig .tc .vmem S256x2048 .bf16) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S1x2048 .f32) (harg15 : arg15.IsWhole)
    (h1 : k0_cond1 i = 1#1) (h2 : ¬ Scalar.cmpi .ne (Scalar.extui (Scalar.cmpi .eq (BitVec.ofNat 32 (i 0).val) 0#32) : BitVec 32) 0#32 = 1#1) (h3 : ¬ k0_cond3 i = 1#1)
    (X2 : Vec Ideal S1024x2048 .i32) (A : Vec Ideal S2048x2048 .bf16) (G : Vec Ideal S1x2048 .f32) (Q : PUnit → sProp 𝕄) :
    iprop(owns (d : Thread nD τ) arg2 fullShare X2 ∗ owns (d : Thread nD τ) arg9 fullShare A ∗ owns (d : Thread nD τ) arg15 fullShare G)
      ⊢ iprop((owns (d : Thread nD τ) arg2 fullShare X2 ∗ owns (d : Thread nD τ) arg9 fullShare ((rowsAt i h1).overlay A (k0_pay3 (F := Ideal) X2)) ∗ owns (d : Thread nD τ) arg15 fullShare (k0_pay2 (F := Ideal) i X2 G) -∗ Q ⟨⟩)
      -∗ wp (M := 𝕄) frame (wpE (defs₀ (F := Ideal)) Variants.none d none) Set.univ (cc0__gcnii_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  rw [cc0__gcnii_body_eq_skeleton]
  unfold cc0__gcnii_body_skel
  dsimp only
  rw [dif_pos h1, dif_neg h2, dif_neg h3]
  iintro ⟨H2, HA, HG⟩ HQ
  iapply (wp_load_owns Variants.none (d : Thread nD τ) none Set.univ) $$ H2
  iintro H2
  iapply (wp_load_owns Variants.none (d : Thread nD τ) none Set.univ) $$ HG
  iintro HG
  iapply (wp_load_owns Variants.none (d : Thread nD τ) none Set.univ) $$ HG
  iintro HG
  iapply (wp_store_owns Variants.none (d : Thread nD τ) none Set.univ) $$ HG
  iintro HG
  iapply (wp_load_owns Variants.none (d : Thread nD τ) none Set.univ) $$ HA
  iintro HA
  iapply (wp_store_owns Variants.none (d : Thread nD τ) none Set.univ) $$ HA
  iintro HA
  rw [ld_all X2 ![0, 0], ld_all G ![0, 0], overlay_all G _ ![0, 0]]
  rw [wp_pure]
  imodintro
  iapply HQ
  isplitl [H2]; · iexact H2
  isplitl [HA]; · iexact HA
  iexact HG

set_option maxHeartbeats 1600000 in
/-- The third point: the layers, and the output stored. -/
theorem body_third (i : grid0.Coords) (arg1 : Memref sig .tc .vmem S2048x256 .f32) (harg1 : arg1.IsWhole) (arg2 : Memref sig .tc .vmem S1024x2048 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole)
    (arg6 : Memref sig .tc .vmem S1x256 .f32) (harg6 : arg6.IsWhole) (arg7 : Memref sig .tc .vmem S8x256x256 .f32) (harg7 : arg7.IsWhole) (arg8 : Memref sig .tc .vmem S2048x256 .f32) (harg8 : arg8.IsWhole) (arg9 : Memref sig .tc .vmem S2048x2048 .bf16) (harg9 : arg9.IsWhole) (arg10 : Memref sig .tc .vmem S256x2048 .bf16) (harg10 : arg10.IsWhole)
    (arg11 : Memref sig .tc .vmem S256x2048 .bf16) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S1x2048 .f32) (harg15 : arg15.IsWhole)
    (h1 : ¬ k0_cond1 i = 1#1) (h2 : ¬ Scalar.cmpi .ne (Scalar.extui (Scalar.cmpi .eq (BitVec.ofNat 32 (i 0).val) 0#32) : BitVec 32) 0#32 = 1#1) (h3 : k0_cond3 i = 1#1)
    (X5 : Vec Ideal S256x256 .f32) (X6 : Vec Ideal S1x256 .f32) (X7 : Vec Ideal S8x256x256 .f32) (X8 : Vec Ideal S2048x256 .f32) (A : Vec Ideal S2048x2048 .bf16)
    (Ya Yb : Vec Ideal S256x2048 .bf16) (R H M : Vec Ideal S256x2048 .f32) (G : Vec Ideal S1x2048 .f32) (Q : PUnit → sProp 𝕄) :
    iprop(owns (d : Thread nD τ) arg5 fullShare X5 ∗ owns (d : Thread nD τ) arg6 fullShare X6 ∗ owns (d : Thread nD τ) arg7 fullShare X7 ∗ owns (d : Thread nD τ) arg8 fullShare X8 ∗ owns (d : Thread nD τ) arg9 fullShare A ∗ owns (d : Thread nD τ) arg10 fullShare Ya ∗ owns (d : Thread nD τ) arg11 fullShare Yb ∗ owns (d : Thread nD τ) arg12 fullShare R ∗ owns (d : Thread nD τ) arg13 fullShare H ∗ owns (d : Thread nD τ) arg14 fullShare M ∗ owns (d : Thread nD τ) arg15 fullShare G)
      ⊢ iprop((owns (d : Thread nD τ) arg5 fullShare X5 ∗ owns (d : Thread nD τ) arg6 fullShare X6 ∗ owns (d : Thread nD τ) arg7 fullShare X7 ∗ owns (d : Thread nD τ) arg8 fullShare (stepGoal X5 X6 X7 A R H G) ∗ (∃ X, owns (d : Thread nD τ) arg9 fullShare X) ∗ (∃ X, owns (d : Thread nD τ) arg10 fullShare X) ∗ (∃ X, owns (d : Thread nD τ) arg11 fullShare X) ∗ (∃ X, owns (d : Thread nD τ) arg12 fullShare X) ∗ (∃ X, owns (d : Thread nD τ) arg13 fullShare X) ∗ (∃ X, owns (d : Thread nD τ) arg14 fullShare X) ∗ (∃ X, owns (d : Thread nD τ) arg15 fullShare X) -∗ Q ⟨⟩)
      -∗ wp (M := 𝕄) frame (wpE (defs₀ (F := Ideal)) Variants.none d none) Set.univ (cc0__gcnii_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  rw [cc0__gcnii_body_eq_skeleton]
  unfold cc0__gcnii_body_skel
  dsimp only
  rw [dif_neg h1, dif_neg h2, dif_pos h3]
  iintro ⟨H5, H6, H7, H8, HA, HUA, HUB, HR, HH, HM, HG⟩ HQ
  rw [wp_bind, part26_eq]
  iapply (lastStep_spec d arg5 arg6 arg7 arg9 harg9 arg10 harg10 arg11 harg11 arg12 arg13 arg14 arg15 X5 X6 X7 A Ya Yb R H M G) $$ [H5 H6 H7 HA HUA HUB HR HH HM HG]
  · isplitl [H5]; · iexact H5
    isplitl [H6]; · iexact H6
    isplitl [H7]; · iexact H7
    isplitl [HA]; · iexact HA
    isplitl [HUA]; · iexact HUA
    isplitl [HUB]; · iexact HUB
    isplitl [HR]; · iexact HR
    isplitl [HH]; · iexact HH
    isplitl [HM]; · iexact HM
    iexact HG
  iintro ⟨H5, H6, H7, HA, HUA, HUB, HR, HH, HM, HG⟩
  iapply (wp_load_owns Variants.none (d : Thread nD τ) none Set.univ) $$ H8
  iintro H8
  iapply (wp_store_owns Variants.none (d : Thread nD τ) none Set.univ) $$ H8
  iintro H8
  rw [overlay_all X8 _ ![0, 0]]
  rw [wp_pure]
  imodintro
  iapply HQ
  isplitl [H5]; · iexact H5
  isplitl [H6]; · iexact H6
  isplitl [H7]; · iexact H7
  isplitl [H8]; · iexact H8
  isplitl [HA]; · iexact HA
  isplitl [HUA]; · iexact HUA
  isplitl [HUB]; · iexact HUB
  isplitl [HR]; · iexact HR
  isplitl [HH]; · iexact HH
  isplitl [HM]; · iexact HM
  iexact HG

end Cert.KernelIdeal.Hand

end
-- ==== Proof.KernelIdealRun.lean ====
/- The idealized kernel run over the extended reals: it terminates without a fault from any memory, leaves its arguments as they were,
   and its result is a function of them. -/
module

public import proofs.«01_k».proof.Proof.Points3
public import proofs.«01_k».proof.Proof.Gen.KernelIdeal.Frame
public import proofs.«01_k».proof.Proof.Gen.KernelIdeal.Points
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The eight staging memrefs at a point and the seven scratch memrefs. -/
abbrev sc0 : Memref sig .tc .vmem S2048x2048 .bf16 := Memref.whole cc0_scratch0
abbrev sc1 : Memref sig .tc .vmem S256x2048 .bf16 := Memref.whole cc0_scratch1
abbrev sc2 : Memref sig .tc .vmem S256x2048 .bf16 := Memref.whole cc0_scratch2
abbrev sc3 : Memref sig .tc .vmem S256x2048 .f32 := Memref.whole cc0_scratch3
abbrev sc4 : Memref sig .tc .vmem S256x2048 .f32 := Memref.whole cc0_scratch4
abbrev sc5 : Memref sig .tc .vmem S256x2048 .f32 := Memref.whole cc0_scratch5
abbrev sc6 : Memref sig .tc .vmem S1x2048 .f32 := Memref.whole cc0_scratch6

/-- The scratch at any contents. -/
abbrev anyScratch (c : Dev nD) : sProp 𝕄 :=
  iprop((∃ d, owns (c : Thread nD τ) sc0 fullShare d) ∗ (∃ d, owns (c : Thread nD τ) sc1 fullShare d) ∗ (∃ d, owns (c : Thread nD τ) sc2 fullShare d)
    ∗ (∃ d, owns (c : Thread nD τ) sc3 fullShare d) ∗ (∃ d, owns (c : Thread nD τ) sc4 fullShare d) ∗ (∃ d, owns (c : Thread nD τ) sc5 fullShare d)
    ∗ (∃ d, owns (c : Thread nD τ) sc6 fullShare d))

/-- What the launch hands the region is the scratch at any contents and the generator register at some state. -/
theorem PhiA_eq (c : Dev nD) : (Pipeline.ΦA spec0 c : sProp 𝕄) = iprop(anyScratch c ∗ (∃ r, prngReg c r)) := by
  unfold Pipeline.ΦA; rw [scopedRest0_eq]; simp only [anyScratch, sc0, sc1, sc2, sc3, sc4, sc5, sc6, owns_whole]; try rfl

/-! ## The grid points -/

theorem cond1_first : k0_cond1 (grid0.coords t0_0) = 1#1 := by decide
theorem cond1_second : k0_cond1 (grid0.coords t0_1) = 1#1 := by decide
theorem cond1_third : ¬ k0_cond1 (grid0.coords t0_2) = 1#1 := by decide
theorem cond3_first : ¬ k0_cond3 (grid0.coords t0_0) = 1#1 := by decide
theorem cond3_second : ¬ k0_cond3 (grid0.coords t0_1) = 1#1 := by decide
theorem cond3_third : k0_cond3 (grid0.coords t0_2) = 1#1 := by decide
theorem cond2_first : Scalar.cmpi .ne (Scalar.extui (Scalar.cmpi .eq (BitVec.ofNat 32 (grid0.coords t0_0 0).val) 0#32) : BitVec 32) 0#32 = 1#1 := by decide
theorem cond2_second : ¬ Scalar.cmpi .ne (Scalar.extui (Scalar.cmpi .eq (BitVec.ofNat 32 (grid0.coords t0_1 0).val) 0#32) : BitVec 32) 0#32 = 1#1 := by decide
theorem cond2_third : ¬ Scalar.cmpi .ne (Scalar.extui (Scalar.cmpi .eq (BitVec.ofNat 32 (grid0.coords t0_2 0).val) 0#32) : BitVec 32) 0#32 = 1#1 := by decide
theorem off1_first : k0_off1 (grid0.coords t0_0) = ![0, 0] := by decide
theorem off1_second : k0_off1 (grid0.coords t0_1) = ![1024, 0] := by decide

/-! ## What the scratch holds between the points -/

/-- The adjacency as stored by the first two points. -/
def adjA (c : Dev nD) : Vec Ideal S2048x2048 .bf16 := fun i =>
  if h : (i 0).val < 1024 then k0_pay3 (F := Ideal) (iblk m c 1 t0_0) (ix2 (⟨(i 0).val, h⟩ : Fin 1024) (i 1 : Fin 2048))
  else k0_pay3 (F := Ideal) (iblk m c 1 t0_1) (ix2 (⟨(i 0).val - 1024, by have : (i 0).val < 2048 := (i 0).isLt; omega⟩ : Fin 1024) (i 1 : Fin 2048))

/-- The column sums after the first point. -/
def degFirst (c : Dev nD) : Vec Ideal S1x2048 .f32 := k0_pay2 (F := Ideal) (grid0.coords t0_0) (iblk m c 1 t0_0) (fun _ => (0 : EReal))

/-- The column sums after the second point. -/
def degSecond (c : Dev nD) : Vec Ideal S1x2048 .f32 := k0_pay2 (F := Ideal) (grid0.coords t0_1) (iblk m c 1 t0_1) (degFirst m c)

/-- The first features. -/
def featFirst (c : Dev nD) : Vec Ideal S256x2048 .f32 := k0_pay5 (F := Ideal) (iblk m c 0 t0_0) (iblk m c 3 t0_0) (iblk m c 2 t0_0)

/-- The residual. -/
def resFirst (c : Dev nD) : Vec Ideal S256x2048 .f32 := k0_pay6 (F := Ideal) (iblk m c 0 t0_0) (iblk m c 3 t0_0) (iblk m c 2 t0_0)

/-- What the last point stores. -/
def outAll (c : Dev nD) : Vec Ideal S2048x256 .f32 :=
  stepGoal (iblk m c 4 t0_2) (iblk m c 5 t0_2) (iblk m c 6 t0_2) (adjA m c) (resFirst m c) (featFirst m c) (degSecond m c)

/-- At the first point the sums start from zero, whatever was there. -/
theorem pay2_first (X : Vec Ideal S1024x2048 .i32) (G G' : Vec Ideal S1x2048 .f32) :
    k0_pay2 (F := Ideal) (grid0.coords t0_0) X G = k0_pay2 (F := Ideal) (grid0.coords t0_0) X G' := rfl

/-- Where a row that the first point stores lies. -/
theorem rows_first_idx (r : Fin 1024) (q : Fin 2048) : (rowsAt (grid0.coords t0_0) cond1_first).idx (ix2 r q) = ix2 (⟨r.val, by omega⟩ : Fin 2048) q := by
  funext a; refine Fin.ext ?_
  rw [Rect.idx_unit_val]
  simp only [off1_first]
  match a with
  | ⟨0, _⟩ => exact Nat.zero_add _
  | ⟨1, _⟩ => exact Nat.zero_add _

/-- Where a row that the second point stores lies. -/
theorem rows_second_idx (r : Fin 1024) (q : Fin 2048) : (rowsAt (grid0.coords t0_1) cond1_second).idx (ix2 r q) = ix2 (⟨1024 + r.val, by omega⟩ : Fin 2048) q := by
  funext a; refine Fin.ext ?_
  rw [Rect.idx_unit_val]
  simp only [off1_second]
  match a with
  | ⟨0, _⟩ => rfl
  | ⟨1, _⟩ => exact Nat.zero_add _

/-- After the two stores the adjacency is there whole, whatever was there before. -/
theorem two_stores (c : Dev nD) (X : Vec Ideal S2048x2048 .bf16) :
    (rowsAt (grid0.coords t0_1) cond1_second).overlay ((rowsAt (grid0.coords t0_0) cond1_first).overlay X (k0_pay3 (F := Ideal) (iblk m c 1 t0_0)))
      (k0_pay3 (F := Ideal) (iblk m c 1 t0_1)) = adjA m c := by
  have e0 : k0_pay3 (F := Ideal) (iblk m c 1 t0_0) = fun x => adjA m c ((rowsAt (grid0.coords t0_0) cond1_first).idx x) := by
    funext x
    obtain ⟨r, q, rfl⟩ : ∃ (r : Fin 1024) (q : Fin 2048), x = ix2 r q := ⟨x 0, x 1, eq_ix2 x⟩
    rw [rows_first_idx]
    exact Eq.symm ((dif_pos (by show r.val < 1024; exact r.isLt)).trans rfl)
  have e1 : k0_pay3 (F := Ideal) (iblk m c 1 t0_1) = fun x => adjA m c ((rowsAt (grid0.coords t0_1) cond1_second).idx x) := by
    funext x
    obtain ⟨r, q, rfl⟩ : ∃ (r : Fin 1024) (q : Fin 2048), x = ix2 r q := ⟨x 0, x 1, eq_ix2 x⟩
    rw [rows_second_idx]
    refine Eq.symm ((dif_neg (by show ¬ (1024 + r.val < 1024); omega)).trans ?_)
    refine congrArg _ (congrArg (fun z : Fin 1024 => ix2 z q) (Fin.ext ?_))
    show 1024 + r.val - 1024 = r.val
    omega
  rw [e0, e1]
  funext y
  have hy : (y 0).val < 2048 := (y 0).isLt
  by_cases h : 1024 ≤ (y 0).val
  · refine overlay_ld_of_mem _ _ _ _ (Rect.mem_set_unit.mpr fun a => ?_)
    rw [off1_second]
    match a with
    | ⟨0, _⟩ => exact ⟨h, by show (y 0).val < 1024 + 1024; omega⟩
    | ⟨1, _⟩ => exact ⟨Nat.zero_le _, by show (y 1).val < 0 + 2048; rw [Nat.zero_add]; exact (y 1).isLt⟩
  · refine overlay_ld_of_eq _ _ _ _ (overlay_ld_of_mem _ _ _ _ (Rect.mem_set_unit.mpr fun a => ?_))
    rw [off1_first]
    match a with
    | ⟨0, _⟩ => exact ⟨Nat.zero_le _, by show (y 0).val < 0 + 1024; omega⟩
    | ⟨1, _⟩ => exact ⟨Nat.zero_le _, by show (y 1).val < 0 + 2048; rw [Nat.zero_add]; exact (y 1).isLt⟩

/-- The scratch between the first and the second point. -/
abbrev afterFirst (c : Dev nD) : sProp 𝕄 :=
  iprop((∃ X, owns (c : Thread nD τ) sc0 fullShare ((rowsAt (grid0.coords t0_0) cond1_first).overlay X (k0_pay3 (F := Ideal) (iblk m c 1 t0_0)))) ∗ (∃ d, owns (c : Thread nD τ) sc1 fullShare d) ∗ (∃ d, owns (c : Thread nD τ) sc2 fullShare d) ∗ owns (c : Thread nD τ) sc3 fullShare (resFirst m c) ∗ owns (c : Thread nD τ) sc4 fullShare (featFirst m c) ∗ (∃ d, owns (c : Thread nD τ) sc5 fullShare d) ∗ owns (c : Thread nD τ) sc6 fullShare (degFirst m c))

/-- The scratch between the second and the third point. -/
abbrev afterSecond (c : Dev nD) : sProp 𝕄 :=
  iprop(owns (c : Thread nD τ) sc0 fullShare (adjA m c) ∗ (∃ d, owns (c : Thread nD τ) sc1 fullShare d) ∗ (∃ d, owns (c : Thread nD τ) sc2 fullShare d) ∗ owns (c : Thread nD τ) sc3 fullShare (resFirst m c) ∗ owns (c : Thread nD τ) sc4 fullShare (featFirst m c) ∗ (∃ d, owns (c : Thread nD τ) sc5 fullShare d) ∗ owns (c : Thread nD τ) sc6 fullShare (degSecond m c))

/-- The scratch before point `n`, with the generator register at some state. -/
def between (c : Dev nD) : ℕ → sProp 𝕄
  | 1 => iprop(afterFirst m c ∗ (∃ r, prngReg c r))
  | 2 => iprop(afterSecond m c ∗ (∃ r, prngReg c r))
  | _ => Pipeline.ΦA spec0 c

/-- The proof data: the inputs' buffers hold their blocks, the output's what the last point stores. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAll m c
  Φ t := between m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAll m c := by dsimp only [dats]

/-- What the body is called with at a point, and what it gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

@[inherit_doc bodyPre] def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A window used at a point: its buffer is left at what the proof data says. -/
theorem leaves_input (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What the inputs' buffers hold at a point, and the output's anything. -/
abbrev blocks (c : Dev nD) (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t))

/-- The body obligation at a point from a statement about the scratch, the input blocks and the output's buffer. -/
theorem body_of (c : Dev nD) (t : Fin cfg0.N)
    (h : ∀ (d8 : Vec Ideal S2048x256 .f32) (Q : Unit → sProp 𝕄), iprop(between m c t.val ∗ blocks m c t ∗ owns (c : Thread nD τ) (st0_7 t) fullShare ((dats m 0 c).before 7 t d8)
        ∗ (iprop(between m c (t.val + 1) ∗ blocks m c t ∗ (dats m 0 c).leavesExact 7 t) -∗ Q ⟨⟩))
      ⊢ wp (M := 𝕄) frame (wpE (defs₀ (F := Ideal)) Variants.none c none) Set.univ (bodyAt0 t) Q) :
    bodyPre m c t ⊢ wp (M := 𝕄) frame (wpE (defs₀ (F := Ideal)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = between m c (t.val + 1) from rfl, show (dats m 0 c).Φ t.castSucc = between m c t.val from rfl]
  rw [leaves_input m c t 0 rfl, leaves_input m c t 1 rfl, leaves_input m c t 2 rfl, leaves_input m c t 3 rfl, leaves_input m c t 4 rfl, leaves_input m c t 5 rfl, leaves_input m c t 6 rfl]
  rw [after0_0, after0_1, after0_2, after0_3, after0_4, after0_5, after0_6]
  iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after0_0 m c) t d0]
  rw [before0_1_of m (dats m 0 c) (A_eq m c 1) (after0_1 m c) t d1]
  rw [before0_2_of m (dats m 0 c) (A_eq m c 2) (after0_2 m c) t d2]
  rw [before0_3_of m (dats m 0 c) (A_eq m c 3) (after0_3 m c) t d3]
  rw [before0_4_of m (dats m 0 c) (A_eq m c 4) (after0_4 m c) t d4]
  rw [before0_5_of m (dats m 0 c) (A_eq m c 5) (after0_5 m c) t d5]
  rw [before0_6_of m (dats m 0 c) (A_eq m c 6) (after0_6 m c) t d6]
  iapply (h d7 _)
  isplitl [Hs]; · iexact Hs
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iintro ⟨Hs, ⟨H0, H1, H2, H3, H4, H5, H6⟩, H7⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The output window is idle at the first two points and used at the third. -/
theorem idle_first : idle0 7 (grid0.coords t0_0) = true := by decide
@[inherit_doc idle_first] theorem idle_second : idle0 7 (grid0.coords t0_1) = true := by decide
@[inherit_doc idle_first] theorem used_third : idle0 7 (grid0.coords t0_2) = false := by decide

/-- Its buffer is not written back after the first two points. -/
theorem noflush_first : (cfg0.win 7).flush t0_0 = false := by
  rw [← Bool.not_eq_true, flush0_7]; decide
@[inherit_doc noflush_first] theorem noflush_second : (cfg0.win 7).flush t0_1 = false := by
  rw [← Bool.not_eq_true, flush0_7]; decide

/-- The first point: the features, the residual, the first rows of the adjacency and the first part of the sums. -/
theorem at_first (c : Dev nD) :
    bodyPre m c t0_0 ⊢ wp (M := 𝕄) frame (wpE (defs₀ (F := Ideal)) Variants.none c none) Set.univ (bodyAt0 t0_0) (fun _ => bodyPost m c t0_0) := by
  refine body_of m c t0_0 fun d8 Q => ?_
  rw [show between m c t0_0.val = Pipeline.ΦA spec0 c from rfl, show between m c (t0_0.val + 1) = iprop(afterFirst m c ∗ (∃ r, prngReg c r)) from rfl]
  rw [Dat.leavesExact_idle (dats m 0 c) 7 t0_0 idle_first noflush_first, PhiA_eq c]
  unfold bodyAt0
  iintro ⟨⟨⟨⟨%A, S0⟩, S1, S2, ⟨%R, S3⟩, ⟨%H, S4⟩, S5, ⟨%G, S6⟩⟩, Hp⟩, ⟨H0, H1, H2, H3, H4, H5, H6⟩, H7, K⟩
  iapply (body_first c (grid0.coords t0_0) (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cond1_first cond2_first cond3_first (iblk m c 0 t0_0) (iblk m c 1 t0_0) (iblk m c 2 t0_0) (iblk m c 3 t0_0) A R H G Q) $$ [H0 H1 H2 H3 S0 S3 S4 S6]
  · isplitl [H0]; · iexact H0
    isplitl [H1]; · iexact H1
    isplitl [H2]; · iexact H2
    isplitl [H3]; · iexact H3
    isplitl [S0]; · iexact S0
    isplitl [S3]; · iexact S3
    isplitl [S4]; · iexact S4
    iexact S6
  iintro ⟨H0, H1, H2, H3, S0, S3, S4, S6⟩
  rw [pay2_first (iblk m c 1 t0_0) G (fun _ => (0 : EReal))]
  iapply K
  isplitl [S0 S1 S2 S3 S4 S5 S6 Hp]
  · isplitr [Hp]
    · isplitl [S0]; · iexists A; iexact S0
      isplitl [S1]; · iexact S1
      isplitl [S2]; · iexact S2
      isplitl [S3]; · iexact S3
      isplitl [S4]; · iexact S4
      isplitl [S5]; · iexact S5
      iexact S6
    iexact Hp
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexists d8; iexact H7

/-- The second point: the other rows of the adjacency and the rest of the sums. -/
theorem at_second (c : Dev nD) :
    bodyPre m c t0_1 ⊢ wp (M := 𝕄) frame (wpE (defs₀ (F := Ideal)) Variants.none c none) Set.univ (bodyAt0 t0_1) (fun _ => bodyPost m c t0_1) := by
  refine body_of m c t0_1 fun d8 Q => ?_
  rw [show between m c t0_1.val = iprop(afterFirst m c ∗ (∃ r, prngReg c r)) from rfl, show between m c (t0_1.val + 1) = iprop(afterSecond m c ∗ (∃ r, prngReg c r)) from rfl]
  rw [Dat.leavesExact_idle (dats m 0 c) 7 t0_1 idle_second noflush_second]
  unfold bodyAt0
  iintro ⟨⟨⟨⟨%A, S0⟩, S1, S2, S3, S4, S5, S6⟩, Hp⟩, ⟨H0, H1, H2, H3, H4, H5, H6⟩, H7, K⟩
  iapply (body_second c (grid0.coords t0_1) (st0_0 t0_1) (hstage0_0 ((cfg0.slots t0_1 0).cast nbuf0_0)) (st0_1 t0_1) (hstage0_1 ((cfg0.slots t0_1 1).cast nbuf0_1)) (st0_2 t0_1) (hstage0_2 ((cfg0.slots t0_1 2).cast nbuf0_2)) (st0_3 t0_1) (hstage0_3 ((cfg0.slots t0_1 3).cast nbuf0_3)) (st0_4 t0_1) (hstage0_4 ((cfg0.slots t0_1 4).cast nbuf0_4)) (st0_5 t0_1) (hstage0_5 ((cfg0.slots t0_1 5).cast nbuf0_5)) (st0_6 t0_1) (hstage0_6 ((cfg0.slots t0_1 6).cast nbuf0_6)) (st0_7 t0_1) (hstage0_7 ((cfg0.slots t0_1 7).cast nbuf0_7)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cond1_second cond2_second cond3_second (iblk m c 1 t0_1) ((rowsAt (grid0.coords t0_0) cond1_first).overlay A (k0_pay3 (F := Ideal) (iblk m c 1 t0_0))) (degFirst m c) Q) $$ [H1 S0 S6]
  · isplitl [H1]; · iexact H1
    isplitl [S0]; · iexact S0
    iexact S6
  rw [two_stores m c A]
  iintro ⟨H1, S0, S6⟩
  iapply K
  isplitl [S0 S1 S2 S3 S4 S5 S6 Hp]
  · isplitr [Hp]
    · isplitl [S0]; · iexact S0
      isplitl [S1]; · iexact S1
      isplitl [S2]; · iexact S2
      isplitl [S3]; · iexact S3
      isplitl [S4]; · iexact S4
      isplitl [S5]; · iexact S5
      iexact S6
    iexact Hp
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexists d8; iexact H7

/-- The third point: the layers and the result. -/
theorem at_third (c : Dev nD) :
    bodyPre m c t0_2 ⊢ wp (M := 𝕄) frame (wpE (defs₀ (F := Ideal)) Variants.none c none) Set.univ (bodyAt0 t0_2) (fun _ => bodyPost m c t0_2) := by
  refine body_of m c t0_2 fun d8 Q => ?_
  rw [show between m c t0_2.val = iprop(afterSecond m c ∗ (∃ r, prngReg c r)) from rfl, show between m c (t0_2.val + 1) = Pipeline.ΦA spec0 c from rfl]
  rw [leaves_input m c t0_2 7 used_third, after0_7, PhiA_eq c]
  unfold bodyAt0
  iintro ⟨⟨⟨S0, ⟨%Ya, S1⟩, ⟨%Yb, S2⟩, S3, S4, ⟨%M, S5⟩, S6⟩, Hp⟩, ⟨H0, H1, H2, H3, H4, H5, H6⟩, H7, K⟩
  iapply (body_third c (grid0.coords t0_2) (st0_0 t0_2) (hstage0_0 ((cfg0.slots t0_2 0).cast nbuf0_0)) (st0_1 t0_2) (hstage0_1 ((cfg0.slots t0_2 1).cast nbuf0_1)) (st0_2 t0_2) (hstage0_2 ((cfg0.slots t0_2 2).cast nbuf0_2)) (st0_3 t0_2) (hstage0_3 ((cfg0.slots t0_2 3).cast nbuf0_3)) (st0_4 t0_2) (hstage0_4 ((cfg0.slots t0_2 4).cast nbuf0_4)) (st0_5 t0_2) (hstage0_5 ((cfg0.slots t0_2 5).cast nbuf0_5)) (st0_6 t0_2) (hstage0_6 ((cfg0.slots t0_2 6).cast nbuf0_6)) (st0_7 t0_2) (hstage0_7 ((cfg0.slots t0_2 7).cast nbuf0_7)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cond1_third cond2_third cond3_third (iblk m c 4 t0_2) (iblk m c 5 t0_2) (iblk m c 6 t0_2) ((dats m 0 c).before 7 t0_2 d8) (adjA m c) Ya Yb (resFirst m c) (featFirst m c) M (degSecond m c) Q) $$ [H4 H5 H6 H7 S0 S1 S2 S3 S4 S5 S6]
  · isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iintro ⟨H4, H5, H6, H7, S0, S1, S2, S3, S4, S5, S6⟩
  iapply K
  isplitl [S0 S1 S2 S3 S4 S5 S6 Hp]
  · isplitr [Hp]
    · isplitl [S0]; · iexact S0
      isplitl [S1]; · iexact S1
      isplitl [S2]; · iexact S2
      isplitl [S3]; · iexact S3
      isplitl [S4]; · iexact S4
      isplitl [S5]; · iexact S5
      iexact S6
    iexact Hp
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact H7

/-- The body obligation at every point. -/
theorem sound_body (c : Dev nD) (t : Fin cfg0.N) :
    bodyPre m c t ⊢ wp (M := 𝕄) frame (wpE (defs₀ (F := Ideal)) Variants.none c none) Set.univ (bodyAt0 t) (fun _ => bodyPost m c t) := by
  rcases fin_N0 t with rfl | rfl | rfl
  · exact at_first m c
  · exact at_second m c
  · exact at_third m c

/-- The body table's row at a point's slots is the body there. -/
theorem defs₀_row (t : Fin cfg0.N) :
    defs₀ (F := Ideal) .tc cfg0.body (cfg0.bodyArgs t (cfg0.slots t)) = bodyAt0 t := by
  unfold defs₀; rw [Defs.onTc_tc]

/-- The body obligation as the launch asks for it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Entails.refl _
theorem hout (c : Dev nD) : (dats m 0 c).Φ (Fin.last _) ⊢ Pipeline.ΦA spec0 c := Entails.refl _

set_option backward.isDefEq.respectTransparency.types false in
set_option maxHeartbeats 1600000 in
/-- The launch: the arrays of the windows end with what the proof data says, every other buffer as it was, every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The output array after a run is what the last point leaves in its buffer. -/
theorem arrAt_last {c : Dev nD} (dat : Dat τ (Elt Ideal) Unit ℕ (UR sig nD τ) ℕ cfg0 c) (G : Vec Ideal S2048x256 .f32) (hG : dat.after 7 t0_2 = G) :
    dat.arrAt 7 cfg0.N = G := by
  refine dat.arrAt_eq_of_after_last 7 t0_2 (by decide +kernel) G fun j => ?_
  rw [hG]
  rfl

/-- The output array after the run is what the last point stores. -/
theorem out_array (c : Dev nD) : (dats m 0 c).arrAt 7 cfg0.N = outAll m c :=
  arrAt_last (dats m 0 c) _ (after0_7 m c t0_2)

set_option maxRecDepth 16384

theorem index_0 : ∀ t : Fin cfg0.N, win0_0.index t = ![0, 0] := (by decide +kernel : ∀ t : Fin grid0.N, _)
theorem index_1_first : win0_1.index t0_0 = ![0, 0] := by decide +kernel
theorem index_1_second : win0_1.index t0_1 = ![1, 0] := by decide +kernel
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0, 0] := (by decide +kernel : ∀ t : Fin grid0.N, _)

/-- The windows that hold a whole array. -/
theorem block_0 (c : Dev nD) (t : Fin cfg0.N) : iblk m c 0 t = V m c main_arg0 := by
  funext y; blk_simp [iblk]; blk_ext [index_0]
@[inherit_doc block_0] theorem block_2 (c : Dev nD) (t : Fin cfg0.N) : iblk m c 2 t = V m c main_arg2 := by
  funext y; blk_simp [iblk]; blk_ext [index_2]
@[inherit_doc block_0] theorem block_3 (c : Dev nD) (t : Fin cfg0.N) : iblk m c 3 t = V m c main_v0 := by
  funext y; blk_simp [iblk]; blk_ext [index_3]
@[inherit_doc block_0] theorem block_4 (c : Dev nD) (t : Fin cfg0.N) : iblk m c 4 t = V m c main_arg4 := by
  funext y; blk_simp [iblk]; blk_ext [index_4]
@[inherit_doc block_0] theorem block_5 (c : Dev nD) (t : Fin cfg0.N) : iblk m c 5 t = V m c main_v1 := by
  funext y; blk_simp [iblk]; blk_ext [index_5]
@[inherit_doc block_0] theorem block_6 (c : Dev nD) (t : Fin cfg0.N) : iblk m c 6 t = V m c main_arg6 := by
  funext y; blk_simp [iblk]; blk_ext [index_6]

/-- The two halves of the adjacency's rows. -/
theorem block_1_first (c : Dev nD) (r : Fin 1024) (q : Fin 2048) :
    iblk m c 1 t0_0 (ix2 r q) = V m c main_arg1 (ix2 (⟨r.val, by omega⟩ : Fin 2048) q) := by
  blk_simp [iblk]; blk_ext [index_1_first]
@[inherit_doc block_1_first] theorem block_1_second (c : Dev nD) (r : Fin 1024) (q : Fin 2048) :
    iblk m c 1 t0_1 (ix2 r q) = V m c main_arg1 (ix2 (⟨1024 + r.val, by omega⟩ : Fin 2048) q) := by
  blk_simp [iblk]; blk_ext [index_1_second]

/-- The biases as the region finds them: rows of one line. -/
theorem V_bias0 (c : Dev nD) : V m c main_v0 = shapeCast S1x256 (m ((c : Thread nD τ).loc main_arg3)) shapeCasts_S256_S1x256 := rfl
@[inherit_doc V_bias0] theorem V_bias1 (c : Dev nD) : V m c main_v1 = shapeCast S1x256 (m ((c : Thread nD τ).loc main_arg5)) shapeCasts_S256_S1x256 := rfl

/-- The run: the result is what the last point stores, the arguments end unchanged, every counter at zero. -/
theorem run_value : θ_run defs (onTc (τ := τ) (main (F := Ideal))) ⟨m, fun _ => 0, ρ⟩ (fun r => (∀ c : Dev nD,
      r.2.mem ((c.tc : Thread nD τ).loc main_v2) = outAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 7).trans (out_array m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c),
      ((h.1 c).1 6).trans (((dats m 0 c).arrAt_in 6 rfl _).trans ((A_eq m c 6).trans (V_main_arg6 m c)))⟩, h.2⟩) (run_main m ρ)

end Cert.KernelIdeal.Hand

end
-- ==== Proof.Equal.lean ====
/- The idealized kernel's result is the reference's, when every adjacency entry is 0 or 1. -/
module

public import proofs.«01_k».proof.Proof.Meet
public import proofs.«01_k».proof.Proof.KernelIdealRun
public import proofs.«01_k».proof.Pre_adj_zero_or_one

@[expose] public section

noncomputable section

namespace Cert.Hand

open Idealize.ShloMosaic hiding ix1 ix2 ix3
open Idealize.ShloMosaic.ValueIdx Idealize.ShloMosaic.TcCoe
open Cert.KernelIdeal Cert.KernelIdeal.Hand Cert.KernelIdeal.Gen
open Cert.ReferenceIdeal.Hand (norm adj start refOut refAct norm_apply adj_apply start_apply entries feats firstW firstB lastW lastB layerW)

/-! ## The precondition -/

/-- The side condition of the precondition's function. -/
instance preFacts : Cert.Pre_adj_zero_or_one.Facts where
  bcast_S_S2048x2048 := Cert.ReferenceIdeal.Gen.bcast_S_S2048x2048

/-- A word at least zero and less than two is zero or one. -/
theorem zero_or_one (a : BitVec 32) (h : IntOp.cmpi .sge a 0#32 &&& IntOp.cmpi .slt a 2#32 = 1#1) : a = 0#32 ∨ a = 1#32 := by
  have h2 : (0 : Int) ≤ a.toInt ∧ a.toInt < 2 := by
    have hb : ∀ p q : Bool, BitVec.ofBool p &&& BitVec.ofBool q = 1#1 → p = true ∧ q = true := by decide
    obtain ⟨h0, h1⟩ := hb _ _ h
    exact ⟨of_decide_eq_true h0, of_decide_eq_true h1⟩
  rcases (by omega : a.toInt = 0 ∨ a.toInt = 1) with h | h
  · exact Or.inl (BitVec.eq_of_toInt_eq (h.trans rfl))
  · exact Or.inr (BitVec.eq_of_toInt_eq (h.trans rfl))

/-- What the precondition says of one entry. -/
theorem entry_zero_or_one (a0 : FVec Ideal S2048x256 .f32) (a1 : IVec S2048x2048 32) (a2 : FVec Ideal S256x256 .f32) (a3 : FVec Ideal S256 .f32)
    (a4 : FVec Ideal S256x256 .f32) (a5 : FVec Ideal S256 .f32) (a6 : FVec Ideal S8x256x256 .f32)
    (h : Cert.Pre_adj_zero_or_one.fn (F := Ideal) a0 a1 a2 a3 a4 a5 a6 = fun _ => 1#1) (i : S2048x2048.Idx) : a1 i = 0#32 ∨ a1 i = 1#32 :=
  zero_or_one _ (congrFun h i)

/-! ## The degrees -/

/-- Replacing one summand by one. -/
theorem sum_replace (a : Fin 2048 → ℝ) (n : Fin 2048) :
    (∑ k : Fin 2048, (a k : EReal)) + ((1 : EReal) - (a n : EReal)) = ((∑ k : Fin 2048, if k = n then 1 else a k : ℝ) : EReal) := by
  have h : (∑ k : Fin 2048, if k = n then (1 : ℝ) else a k) = (∑ k : Fin 2048, a k) + (1 - a n) := by
    have h1 : ∀ k : Fin 2048, (if k = n then (1 : ℝ) else a k) = a k + if k = n then 1 - a n else 0 := fun k => by
      by_cases hk : k = n
      · subst hk; rw [if_pos rfl, if_pos rfl]; ring
      · rw [if_neg hk, if_neg hk, add_zero]
    rw [Finset.sum_congr rfl fun k _ => h1 k, Finset.sum_add_distrib, Finset.sum_ite_eq', if_pos (Finset.mem_univ n)]
  rw [h, EReal.coe_add, coe_sum, EReal.coe_sub, EReal.coe_one]

/-- The reciprocal square root of a positive number is one over its square root. -/
theorem rsqrt_eq_div (s : ℝ) (hs : 0 < s) : Ideal.rsqrt (s : EReal) = Ideal.div 1 (Ideal.sqrt (s : EReal)) := by
  have h0 : (Real.sqrt s : ℝ) ≠ 0 := (Real.sqrt_pos.mpr hs).ne'
  rw [Ideal.rsqrt_coe, if_neg hs.not_gt, if_neg hs.ne', Ideal.sqrt_coe, if_neg hs.not_gt, Ideal.div_coe h0, one_mul, one_div]

/-! ## The two programs' values -/

section

variable (m : (ℓ : Loc nD τ sig) → Buf (Elt Ideal) ℓ) (c : Dev nD)

/-- The adjacency's entries as numbers. -/
abbrev entry : IVec S2048x2048 32 := m ((c : Thread nD τ).loc main_arg1)

/-- The stored adjacency at an index. -/
theorem adjA_apply (k n : Fin 2048) : adjA m c (ix2 k n) = (((entry m c (ix2 k n)).toInt : ℝ) : EReal) := by
  unfold adjA
  by_cases h : k.val < 1024
  · refine (dif_pos h).trans ((pay3_apply _ _).trans ?_)
    exact congrArg (fun z : BitVec 32 => ((z.toInt : ℝ) : EReal)) ((block_1_first m c ⟨k.val, h⟩ n).trans (congrFun (V_main_arg1 m c) _))
  · refine (dif_neg h).trans ((pay3_apply _ _).trans ?_)
    refine congrArg (fun z : BitVec 32 => ((z.toInt : ℝ) : EReal)) ((block_1_second m c ⟨k.val - 1024, by omega⟩ n).trans ((congrFun (V_main_arg1 m c) _).trans ?_))
    exact congrArg (fun z : Fin 2048 => entry m c (ix2 z n)) (Fin.ext (by show 1024 + (k.val - 1024) = k.val; omega))

/-- The column sums at an index. -/
theorem degSecond_apply (n : Fin 2048) : degSecond m c (ix2 (0 : Fin 1) n) = ∑ k : Fin 2048, (((entry m c (ix2 k n)).toInt : ℝ) : EReal) := by
  have e1 : Scalar.cmpi .eq (BitVec.ofNat 32 (grid0.coords t0_0 0).val) 0#32 = 1#1 := by decide
  have e2 : Scalar.cmpi .eq (BitVec.ofNat 32 (grid0.coords t0_1 0).val) 0#32 = 0#1 := by decide
  refine (pay2_apply _ _ _ n).trans ?_
  rw [e2, select_zero]
  refine (congrArg (fun z : EReal => z + _) (pay2_apply _ _ _ n)).trans ?_
  rw [e1, select_one, zero_add]
  refine Eq.trans ?_ (Fin.sum_univ_add (a := 1024) (b := 1024) (fun k : Fin 2048 => (((entry m c (ix2 k n)).toInt : ℝ) : EReal))).symm
  refine congrArg₂ (fun a b : EReal => a + b) (Finset.sum_congr rfl fun k _ => ?_) (Finset.sum_congr rfl fun k _ => ?_)
  · exact congrArg (fun z : BitVec 32 => ((z.toInt : ℝ) : EReal)) ((block_1_first m c k n).trans (congrFun (V_main_arg1 m c) _))
  · exact congrArg (fun z : BitVec 32 => ((z.toInt : ℝ) : EReal)) ((block_1_second m c k n).trans (congrFun (V_main_arg1 m c) _))

variable (V0 : Valuation Cert.ReferenceIdeal.τ Cert.ReferenceIdeal.sig (Elt Ideal))

/-- The reference's adjacency at an index, as a number. -/
theorem adj_number (he : entries V0 = entry m c) (hpre : ∀ i, entry m c i = 0#32 ∨ entry m c i = 1#32) (k n : Fin 2048) :
    adj V0 (ix2 k n) = ((if k = n then 1 else ((entry m c (ix2 k n)).toInt : ℝ) : ℝ) : EReal) := by
  rw [adj_apply, he]
  by_cases hk : k = n
  · rw [if_pos hk, if_pos (congrArg Fin.val hk), EReal.coe_one]
  · rw [if_neg hk, if_neg (fun h => hk (Fin.ext h))]
    rcases hpre (ix2 k n) with h | h
    · rw [h, if_pos rfl]; simp
    · rw [h, if_neg (by decide)]; simp

/-- Before the layers the two programs hold the same. -/
theorem meets (he : entries V0 = entry m c) (hpre : ∀ i, entry m c i = 0#32 ∨ entry m c i = 1#32)
    (hx : feats V0 = m ((c : Thread nD τ).loc main_arg0)) (hw : firstW V0 = m ((c : Thread nD τ).loc main_arg2)) (hb : firstB V0 = m ((c : Thread nD τ).loc main_arg3)) :
    Meets (dinvGoal (adjA m c) (degSecond m c)) (diagTo 2048 (adjA m c)) (resFirst m c) (featFirst m c) (norm V0) (adj V0) (start V0) := by
  have hfirst : ∀ (r : Fin 256) (n : Fin 2048), k0_pay4 (F := Ideal) (iblk m c 0 t0_0) (iblk m c 3 t0_0) (iblk m c 2 t0_0) (ix2 r n) = start V0 (ix2 n r) := fun r n => by
    rw [block_0, block_2, block_3, V_main_arg0, V_main_arg2, V_bias0, pay4_apply, start_apply, hx, hw, hb, shapeCast_a_1a_apply]
    exact congrArg (fun z : EReal => max (z + _) 0) (Finset.sum_congr rfl fun k _ => mul_comm _ _)
  have hnonneg : ∀ i, (0 : ℝ) ≤ ((entry m c i).toInt : ℝ) := fun i => by
    rcases hpre i with h | h <;> rw [h] <;> simp
  refine ⟨fun n => ?_, fun k n => ?_, fun r n => (pay5_apply _ _ _ _).trans (hfirst r n), fun r n => (pay6_apply _ _ _ _).trans ?_⟩
  · rw [norm_apply, dinvGoal_apply _ (fun i => ?_), degSecond_apply, adjA_apply, sum_replace (fun k : Fin 2048 => ((entry m c (ix2 k n)).toInt : ℝ)) n,
      Finset.sum_congr rfl fun k _ => adj_number m c V0 he hpre k n, ← coe_sum]
    · refine rsqrt_eq_div _ (lt_of_lt_of_le zero_lt_one ?_)
      refine le_trans (le_of_eq (if_pos rfl).symm) (Finset.single_le_sum (f := fun k : Fin 2048 => if k = n then (1 : ℝ) else ((entry m c (ix2 k n)).toInt : ℝ)) (fun k _ => ?_) (Finset.mem_univ n))
      show (0 : ℝ) ≤ if k = n then (1 : ℝ) else _
      split
      · exact zero_le_one
      · exact hnonneg _
    · obtain ⟨k, q, rfl⟩ : ∃ (k q : Fin 2048), i = ix2 k q := ⟨i 0, i 1, ValueIdx.eq_ix2 i⟩
      exact ⟨_, adjA_apply m c k q⟩
  · rw [adj_number m c V0 he hpre]
    by_cases hk : k = n
    · subst hk
      rw [if_pos rfl, EReal.coe_one]
      exact if_pos ⟨rfl, k.isLt⟩
    · rw [if_neg hk]
      exact (if_neg (fun h => hk (Fin.ext h.1))).trans (adjA_apply m c k n)
  · rw [hfirst]

/-- The kernel's output is the reference's. -/
theorem outAll_eq (hpre : ∀ i, entry m c i = 0#32 ∨ entry m c i = 1#32)
    (hx : feats V0 = m ((c : Thread nD τ).loc main_arg0)) (he : entries V0 = entry m c) (hw : firstW V0 = m ((c : Thread nD τ).loc main_arg2))
    (hb : firstB V0 = m ((c : Thread nD τ).loc main_arg3)) (hw1 : lastW V0 = m ((c : Thread nD τ).loc main_arg4))
    (hb1 : lastB V0 = m ((c : Thread nD τ).loc main_arg5)) (hwl : layerW V0 = m ((c : Thread nD τ).loc main_arg6)) :
    outAll m c = refOut (refAct Cert.ReferenceIdeal.Gen.slices_S8x256x256_S1x256x256_7_0_0 0x3F707AE8#32 0x3D785186#32 (layerW V0)
      (Cert.ReferenceIdeal.Value.res_main_v186 V0)) (lastW V0) (lastB V0) := by
  refine out_eq V0 (meets m c V0 he hpre hx hw hb) ?_ ?_ (fun r => ?_)
  · rw [block_6, V_main_arg6, hwl]
  · rw [block_4, V_main_arg4, hw1]
  · rw [block_5, V_bias1, hb1, shapeCast_a_1a_apply]

end

end Cert.Hand

end
-- ==== Proof.lean ====
module

public import proofs.«01_k».proof.Defs
public import proofs.«01_k».proof.Proof.KernelFrame
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as compiled ends without a fault, its arguments unchanged and every counter at zero. -/
theorem frame_kernel : Cert.quiescent_Kernel := fun m ρ _ => Cert.Kernel.Hand.frame m ρ

/-- The same of the idealized kernel. -/
theorem frame_kernel_ideal : Cert.quiescent_KernelIdeal := fun m ρ _ =>
  (θ_run Cert.KernelIdeal.defs _ _).mono (fun _ h => ⟨fun c => (h.1 c).2, h.2⟩) (Cert.KernelIdeal.Hand.run_value m ρ)

/-- The same of the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Each constant that is named is the exact quotient of the two constants of its layer. -/
theorem preserves : Cert.preserves_Kernel_KernelIdeal :=
  ⟨IdealRules.named_const.statement Cert.KernelIdeal.κ "ratio0" .f32 0x3F2E96B4#32 ((13605151 / 19949280 : ℝ) : EReal) rfl,
   IdealRules.named_const.statement Cert.KernelIdeal.κ "ratio1" .f32 0x3E931101#32 ((7487455 / 26066976 : ℝ) : EReal) rfl,
   IdealRules.named_const.statement Cert.KernelIdeal.κ "ratio2" .f32 0x3E3A9E15#32 ((10344877 / 56763988 : ℝ) : EReal) rfl,
   IdealRules.named_const.statement Cert.KernelIdeal.κ "ratio3" .f32 0x3E08B653#32 ((15808571 / 118409160 : ℝ) : EReal) rfl,
   IdealRules.named_const.statement Cert.KernelIdeal.κ "ratio4" .f32 0x3DD7C262#32 ((3198079 / 30356354 : ℝ) : EReal) rfl,
   IdealRules.named_const.statement Cert.KernelIdeal.κ "ratio5" .f32 0x3DB230B7#32 ((1790525 / 20579096 : ℝ) : EReal) rfl,
   IdealRules.named_const.statement Cert.KernelIdeal.κ "ratio6" .f32 0x3D97C4B1#32 ((4630033 / 62478832 : ℝ) : EReal) rfl,
   IdealRules.named_const.statement Cert.KernelIdeal.κ "ratio7" .f32 0x3D842C0F#32 ((8136899 / 126080832 : ℝ) : EReal) rfl⟩

/-- The two frames again, on the inputs that meet the precondition. -/
theorem frame_kernel_ideal_pre : Cert.quiescent_KernelIdeal_pre_adj_zero_or_one := fun m ρ _ => frame_kernel_ideal m ρ trivial
@[inherit_doc frame_kernel_ideal_pre] theorem frame_reference_pre : Cert.quiescent_ReferenceIdeal_pre_adj_zero_or_one := fun m ρ _ => frame_reference m ρ trivial

/-- From equal arguments whose adjacency entries are 0 or 1 the idealized kernel and the reference end with the same result. -/
theorem algebraic : Cert.algebraic_KernelIdeal_ReferenceIdeal_pre_adj_zero_or_one := by
  intro m ρ m' ρ' hpre hagree
  refine ⟨fun c => Cert.KernelIdeal.Hand.outAll m c, (θ_run Cert.KernelIdeal.defs _ _).mono (fun _ h => h.1) (Cert.KernelIdeal.Hand.run_value m ρ),
    (θ_run Cert.ReferenceIdeal.defs _ _).mono (fun _ h c => ⟨(h c).1.trans ?_, (h c).2⟩) (Cert.ReferenceIdeal.Value.run (F := Ideal) m' ρ')⟩
  obtain ⟨hx, he, hw, hb, hw1, hb1, hwl⟩ := hagree c
  exact (Cert.Hand.outAll_eq m c (StableHlo.launchContents m' c) (Cert.Hand.entry_zero_or_one _ _ _ _ _ _ _ (hpre c)) hx he hw hb hw1 hb1 hwl).symm

theorem claim : Cert.Claim :=
  ⟨Cert.Kernel.Gen.facts, Cert.KernelIdeal.Gen.facts, Cert.ReferenceIdeal.Gen.facts, Cert.Hand.preFacts, frame_kernel, frame_kernel_ideal,
    frame_kernel_ideal_pre, frame_reference, frame_reference_pre, preserves, algebraic⟩

end Cert.Proof

end
